-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_qk : Cert.Pre_finite_qk.Facts) (hPre_finite_ffn : Cert.Pre_finite_ffn.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
-- ==== Pre_finite_ffn.lean ====
abbrev S4x4096x1024 : Shape := ⟨3, ![4, 4096, 1024]⟩
abbrev S2x8x6144 : Shape := ⟨3, ![2, 8, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S2x8x6144 : S_.BroadcastsInDim S2x8x6144 (![] : Fin 0 → Fin S2x8x6144.rank)
  bcast_S_S2x1024x5632 : S_.BroadcastsInDim S2x1024x5632 (![] : Fin 0 → Fin S2x1024x5632.rank)
  bcast_S_S2x3x5632 : S_.BroadcastsInDim S2x3x5632 (![] : Fin 0 → Fin S2x3x5632.rank)
  bcast_S_S2x5632 : S_.BroadcastsInDim S2x5632 (![] : Fin 0 → Fin S2x5632.rank)

variable [Facts]

def fn {F : FTy → Type} [FloatOps F] (main_arg0 : FVec F S4x4096x1024 .f32) (main_arg1 : FVec F S2x8x6144 .f32) (main_arg2 : FVec F S2x1024x5632 .f32) (main_arg3 : FVec F S2x3x5632 .f32) (main_arg4 : FVec F S2x5632 .f32) (main_arg5 : FVec F S2x2816x1024 .f32) (main_arg6 : FVec F S1024 .f32) : IVec S4x4096x1024 1 × IVec S2x8x6144 1 × IVec S2x1024x5632 1 × IVec S2x3x5632 1 × IVec S2x5632 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S2x8x6144 .f32 := Host.absf main_arg1
  let main_cst_0 : FVec F S_ .f32 := constant S_ .f32 0x7F800000#32
  let main_v4 : FVec F S2x8x6144 .f32 := broadcastInDim S2x8x6144 ![] bcast_S_S2x8x6144 main_cst_0
  let main_v5 : IVec S2x8x6144 1 := cmpf .olt main_v3 main_v4
  let main_v6 : FVec F S2x1024x5632 .f32 := Host.absf main_arg2
  let main_cst_1 : FVec F S_ .f32 := constant S_ .f32 0x7F800000#32
  let main_v7 : FVec F S2x1024x5632 .f32 := broadcastInDim S2x1024x5632 ![] bcast_S_S2x1024x5632 main_cst_1
  let main_v8 : IVec S2x1024x5632 1 := cmpf .olt main_v6 main_v7
  let main_v9 : FVec F S2x3x5632 .f32 := Host.absf main_arg3
  let main_cst_2 : FVec F S_ .f32 := constant S_ .f32 0x7F800000#32
  let main_v10 : FVec F S2x3x5632 .f32 := broadcastInDim S2x3x5632 ![] bcast_S_S2x3x5632 main_cst_2
  let main_v11 : IVec S2x3x5632 1 := cmpf .olt main_v9 main_v10
  let main_v12 : FVec F S2x5632 .f32 := Host.absf main_arg4
  let main_cst_3 : FVec F S_ .f32 := constant S_ .f32 0x7F800000#32
  let main_v13 : FVec F S2x5632 .f32 := broadcastInDim S2x5632 ![] bcast_S_S2x5632 main_cst_3
  let main_v14 : IVec S2x5632 1 := cmpf .olt main_v12 main_v13
  (main_v2, main_v5, main_v8, main_v11, main_v14)
-- ==== Pre_finite_qk.lean ====
abbrev S4x4096x8x64 : Shape := ⟨4, ![4, 4096, 8, 64]⟩
abbrev S4x256x2x64 : Shape := ⟨4, ![4, 256, 2, 64]⟩
abbrev S4x4096x2x64 : Shape := ⟨4, ![4, 4096, 2, 64]⟩
abbrev S_ : Shape := ⟨0, ![]⟩

class Facts : Prop where
  bcast_S_S4x4096x8x64 : S_.BroadcastsInDim S4x4096x8x64 (![] : Fin 0 → Fin S4x4096x8x64.rank)
  bcast_S_S4x256x2x64 : S_.BroadcastsInDim S4x256x2x64 (![] : Fin 0 → Fin S4x256x2x64.rank)
  bcast_S_S4x4096x2x64 : S_.BroadcastsInDim S4x4096x2x64 (![] : Fin 0 → Fin S4x4096x2x64.rank)

variable [Facts]

def fn {F : FTy → Type} [FloatOps F] (main_arg0 : FVec F S4x4096x8x64 .f32) (main_arg1 : FVec F S4x256x2x64 .f32) (main_arg2 : FVec F S4x256x2x64 .f32) (main_arg3 : FVec F S4x4096x2x64 .f32) (main_arg4 : FVec F S4x4096x2x64 .f32) : IVec S4x4096x8x64 1 × IVec S4x256x2x64 1 × IVec S4x4096x2x64 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x256x2x64 .f32 := Host.absf main_arg1
  let main_cst_0 : FVec F S_ .f32 := constant S_ .f32 0x7F800000#32
  let main_v4 : FVec F S4x256x2x64 .f32 := broadcastInDim S4x256x2x64 ![] bcast_S_S4x256x2x64 main_cst_0
  let main_v5 : IVec S4x256x2x64 1 := cmpf .olt main_v3 main_v4
  let main_v6 : FVec F S4x4096x2x64 .f32 := Host.absf main_arg3
  let main_cst_1 : FVec F S_ .f32 := constant S_ .f32 0x7F800000#32
  let main_v7 : FVec F S4x4096x2x64 .f32 := broadcastInDim S4x4096x2x64 ![] bcast_S_S4x4096x2x64 main_cst_1
  let main_v8 : IVec S4x4096x2x64 1 := cmpf .olt main_v6 main_v7
  (main_v2, main_v5, main_v8)
-- ==== Kernel.lean ====
abbrev S4x4096x8x64 : Shape := ⟨4, ![4, 4096, 8, 64]⟩
abbrev S4x256x2x64 : Shape := ⟨4, ![4, 256, 2, 64]⟩
abbrev S4x4096x2x64 : Shape := ⟨4, ![4, 4096, 2, 64]⟩
abbrev S_ : Shape := ⟨0, ![]⟩
abbrev S4x8x64x4096 : Shape := ⟨4, ![4, 8, 64, 4096]⟩
abbrev S4x256x2x1 : Shape := ⟨4, ![4, 256, 2, 1]⟩
abbrev S4x256x2x63 : Shape := ⟨4, ![4, 256, 2, 63]⟩
abbrev S4x256x2x128 : Shape := ⟨4, ![4, 256, 2, 128]⟩
abbrev S4x2x256x128 : Shape := ⟨4, ![4, 2, 256, 128]⟩
abbrev S4x256x2x16 : Shape := ⟨4, ![4, 256, 2, 16]⟩
abbrev S4x256x2x80 : Shape := ⟨4, ![4, 256, 2, 80]⟩
abbrev S4x2x80x256 : Shape := ⟨4, ![4, 2, 80, 256]⟩
abbrev S4x4096x2x1 : Shape := ⟨4, ![4, 4096, 2, 1]⟩
abbrev S4x4096x2x63 : Shape := ⟨4, ![4, 4096, 2, 63]⟩
abbrev S4x4096x2x128 : Shape := ⟨4, ![4, 4096, 2, 128]⟩
abbrev S4x2x4096x128 : Shape := ⟨4, ![4, 2, 4096, 128]⟩
abbrev S4x4096x2x16 : Shape := ⟨4, ![4, 4096, 2, 16]⟩
abbrev S4x4096x2x80 : Shape := ⟨4, ![4, 4096, 2, 80]⟩
abbrev S4x2x80x4096 : Shape := ⟨4, ![4, 2, 80, 4096]⟩
abbrev S4x512x4096 : Shape := ⟨3, ![4, 512, 4096]⟩
abbrev S1x8x64x256 : Shape := ⟨4, ![1, 8, 64, 256]⟩
abbrev S1x2x256x128 : Shape := ⟨4, ![1, 2, 256, 128]⟩
abbrev S1x2x80x256 : Shape := ⟨4, ![1, 2, 80, 256]⟩
abbrev S1x2x4096x128 : Shape := ⟨4, ![1, 2, 4096, 128]⟩
abbrev S1x2x80x4096 : Shape := ⟨4, ![1, 2, 80, 4096]⟩
abbrev S1x512x256 : Shape := ⟨3, ![1, 512, 256]⟩
abbrev S16x1024 : Shape := ⟨2, ![16, 1024]⟩
abbrev S48x1024 : Shape := ⟨2, ![48, 1024]⟩
abbrev S1x1x64x256 : Shape := ⟨4, ![1, 1, 64, 256]⟩
abbrev S64x256 : Shape := ⟨2, ![64, 256]⟩
abbrev S64x1024 : Shape := ⟨2, ![64, 1024]⟩
abbrev S1x1x256x64 : Shape := ⟨4, ![1, 1, 256, 64]⟩
abbrev S256x64 : Shape := ⟨2, ![256, 64]⟩
abbrev S256x1024 : Shape := ⟨2, ![256, 1024]⟩
abbrev S1024 : Shape := ⟨1, ![1024]⟩
abbrev S1x1024 : Shape := ⟨2, ![1, 1024]⟩
abbrev S1x1x80x256 : Shape := ⟨4, ![1, 1, 80, 256]⟩
abbrev S80x256 : Shape := ⟨2, ![80, 256]⟩
abbrev S80x1024 : Shape := ⟨2, ![80, 1024]⟩
abbrev S128x1024 : Shape := ⟨2, ![128, 1024]⟩
abbrev S1x1x512x128 : Shape := ⟨4, ![1, 1, 512, 128]⟩
abbrev S512x128 : Shape := ⟨2, ![512, 128]⟩
abbrev S512x1024 : Shape := ⟨2, ![512, 1024]⟩
abbrev S1x1x80x512 : Shape := ⟨4, ![1, 1, 80, 512]⟩
abbrev S80x512 : Shape := ⟨2, ![80, 512]⟩
abbrev S1x64x256 : Shape := ⟨3, ![1, 64, 256]⟩
abbrev S1x1x1024 : Shape := ⟨3, ![1, 1, 1024]⟩
abbrev S1 : Shape := ⟨1, ![1]⟩
abbrev S1x1x1 : Shape := ⟨3, ![1, 1, 1]⟩
abbrev S1x1x512x64 : Shape := ⟨4, ![1, 1, 512, 64]⟩
abbrev S512x64 : Shape := ⟨2, ![512, 64]⟩

abbrev nBuf : Space → Nat
  | .hbm => 40
  | .vmem => 12
  | .smem => 0
  | _ => 0

abbrev bufTy : (tb : Table) → Fin (tcTables nBuf tb) → BufTy
  | .hbm, ⟨0, _⟩ => ⟨S4x4096x8x64, .f32⟩
  | .hbm, ⟨1, _⟩ => ⟨S4x256x2x64, .f32⟩
  | .hbm, ⟨2, _⟩ => ⟨S4x256x2x64, .f32⟩
  | .hbm, ⟨3, _⟩ => ⟨S4x4096x2x64, .f32⟩
  | .hbm, ⟨4, _⟩ => ⟨S4x4096x2x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x8x64, .f32⟩
  | .hbm, ⟨10, _⟩ => ⟨S4x4096x8x64, .f32⟩
  | .hbm, ⟨11, _⟩ => ⟨S4x8x64x4096, .f32⟩
  | .hbm, ⟨12, _⟩ => ⟨S4x8x64x4096, .bf16⟩
  | .hbm, ⟨13, _⟩ => ⟨S_, .f32⟩
  | .hbm, ⟨14, _⟩ => ⟨S4x256x2x1, .f32⟩
  | .hbm, ⟨15, _⟩ => ⟨S_, .f32⟩
  | .hbm, ⟨16, _⟩ => ⟨S4x256x2x63, .f32⟩
  | .hbm, ⟨17, _⟩ => ⟨S4x256x2x64, .f32⟩
  | .hbm, ⟨18, _⟩ => ⟨S4x256x2x128, .f32⟩
  | .hbm, ⟨19, _⟩ => ⟨S4x2x256x128, .f32⟩
  | .hbm, ⟨20, _⟩ => ⟨S4x2x256x128, .bf16⟩
  | .hbm, ⟨21, _⟩ => ⟨S_, .f32⟩
  | .hbm, ⟨22, _⟩ => ⟨S4x256x2x16, .f32⟩
  | .hbm, ⟨23, _⟩ => ⟨S4x256x2x80, .f32⟩
  | .hbm, ⟨24, _⟩ => ⟨S4x2x80x256, .f32⟩
  | .hbm, ⟨25, _⟩ => ⟨S4x2x80x256, .bf16⟩
  | .hbm, ⟨26, _⟩ => ⟨S_, .f32⟩
  | .hbm, ⟨27, _⟩ => ⟨S4x4096x2x1, .f32⟩
  | .hbm, ⟨28, _⟩ => ⟨S_, .f32⟩
  | .hbm, ⟨29, _⟩ => ⟨S4x4096x2x63, .f32⟩
  | .hbm, ⟨30, _⟩ => ⟨S4x4096x2x64, .f32⟩
  | .hbm, ⟨31, _⟩ => ⟨S4x4096x2x128, .f32⟩
  | .hbm, ⟨32, _⟩ => ⟨S4x2x4096x128, .f32⟩
  | .hbm, ⟨33, _⟩ => ⟨S4x2x4096x128, .bf16⟩
  | .hbm, ⟨34, _⟩ => ⟨S_, .f32⟩
  | .hbm, ⟨35, _⟩ => ⟨S4x4096x2x16, .f32⟩
  | .hbm, ⟨36, _⟩ => ⟨S4x4096x2x80, .f32⟩
  | .hbm, ⟨37, _⟩ => ⟨S4x2x80x4096, .f32⟩
  | .hbm, ⟨38, _⟩ => ⟨S4x2x80x4096, .bf16⟩
  | .hbm, ⟨39, _⟩ => ⟨S4x512x4096, .bf16⟩
  | .local _ .vmem, ⟨0, _⟩ => ⟨S1x8x64x256, .bf16⟩
  | .local _ .vmem, ⟨1, _⟩ => ⟨S1x8x64x256, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x80x256, .bf16⟩
  | .local _ .vmem, ⟨5, _⟩ => ⟨S1x2x80x256, .bf16⟩
  | .local _ .vmem, ⟨6, _⟩ => ⟨S1x2x4096x128, .bf16⟩
  | .local _ .vmem, ⟨7, _⟩ => ⟨S1x2x4096x128, .bf16⟩
  | .local _ .vmem, ⟨8, _⟩ => ⟨S1x2x80x4096, .bf16⟩
  | .local _ .vmem, ⟨9, _⟩ => ⟨S1x2x80x4096, .bf16⟩
  | .local _ .vmem, ⟨10, _⟩ => ⟨S1x512x256, .bf16⟩
  | .local _ .vmem, ⟨11, _⟩ => ⟨S1x512x256, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_325 : BitVec 32 := 0#32
  let c8_i32 : BitVec 32 := 8#32
  let v631 : BitVec 32 := Scalar.addi c0_i32_325 c8_i32
  let c1_i32 : BitVec 32 := 1#32
  ⟨c0_i32_325, v631, c1_i32⟩
def k0_mult1 (k0_t1 : Fin k0_t1_loop.trips) : BitVec 32 :=
  let c0_i32_325 : BitVec 32 := 0#32
  let c1_i32 : BitVec 32 := 1#32
  let arg8 : BitVec 32 := Scf.iv c0_i32_325 c1_i32 k0_t1
  let c512_i32 : BitVec 32 := 512#32
  let v708 : BitVec 32 := Scalar.muli arg8 c512_i32
  v708
def k0_off1 (k0_t1 : Fin k0_t1_loop.trips) : Fin 4 → Nat :=
  let c0_384 : Index := 0#32
  let c0_385 : Index := 0#32
  let c0_i32_325 : BitVec 32 := 0#32
  let c1_i32 : BitVec 32 := 1#32
  let arg8 : BitVec 32 := Scf.iv c0_i32_325 c1_i32 k0_t1
  let c512_i32 : BitVec 32 := 512#32
  let v708 : BitVec 32 := Scalar.muli arg8 c512_i32
  let v709 : BitVec 32 := v708
  let v710 : Index := Scalar.indexCast v709
  let c0_386 : Index := 0#32
  ![0, 0, v710.toNat, 0]
def k0_off2 (k0_t1 : Fin k0_t1_loop.trips) : Fin 4 → Nat :=
  let c0_389 : Index := 0#32
  let c0_390 : Index := 0#32
  let c0_391 : Index := 0#32
  let c0_i32_325 : BitVec 32 := 0#32
  let c1_i32 : BitVec 32 := 1#32
  let arg8 : BitVec 32 := Scf.iv c0_i32_325 c1_i32 k0_t1
  let c512_i32 : BitVec 32 := 512#32
  let v708 : BitVec 32 := Scalar.muli arg8 c512_i32
  let v709 : BitVec 32 := v708
  let v725 : Index := Scalar.indexCast v709
  ![0, 0, 0, v725.toNat]
@[reducible] def k0_t2_loop : Scf.Loop 32 :=
  let c0_i32_367 : BitVec 32 := 0#32
  let c8_i32_368 : BitVec 32 := 8#32
  let v680 : BitVec 32 := Scalar.addi c0_i32_367 c8_i32_368
  let c1_i32_369 : BitVec 32 := 1#32
  ⟨c0_i32_367, v680, c1_i32_369⟩
def k0_mult2 (k0_t2 : Fin k0_t2_loop.trips) : BitVec 32 :=
  let c0_i32_367 : BitVec 32 := 0#32
  let c1_i32_369 : BitVec 32 := 1#32
  let arg8 : BitVec 32 := Scf.iv c0_i32_367 c1_i32_369 k0_t2
  let c512_i32 : BitVec 32 := 512#32
  let v708 : BitVec 32 := Scalar.muli arg8 c512_i32
  v708
def k0_off3 (k0_t2 : Fin k0_t2_loop.trips) : Fin 4 → Nat :=
  let c0_384 : Index := 0#32
  let c1_385 : Index := 1#32
  let c0_i32_367 : BitVec 32 := 0#32
  let c1_i32_369 : BitVec 32 := 1#32
  let arg8 : BitVec 32 := Scf.iv c0_i32_367 c1_i32_369 k0_t2
  let c512_i32 : BitVec 32 := 512#32
  let v708 : BitVec 32 := Scalar.muli arg8 c512_i32
  let v709 : BitVec 32 := v708
  let v710 : Index := Scalar.indexCast v709
  let c0_386 : Index := 0#32
  ![0, 1, v710.toNat, 0]
def k0_off4 (k0_t2 : Fin k0_t2_loop.trips) : Fin 4 → Nat :=
  let c0_389 : Index := 0#32
  let c1_390 : Index := 1#32
  let c0_391 : Index := 0#32
  let c0_i32_367 : BitVec 32 := 0#32
  let c1_i32_369 : BitVec 32 := 1#32
  let arg8 : BitVec 32 := Scf.iv c0_i32_367 c1_i32_369 k0_t2
  let c512_i32 : BitVec 32 := 512#32
  let v708 : BitVec 32 := Scalar.muli arg8 c512_i32
  let v709 : BitVec 32 := v708
  let v725 : Index := Scalar.indexCast v709
  ![0, 1, 0, v725.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x80x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x8x64 : Shape := ⟨4, ![4, 4096, 8, 64]⟩
abbrev S4x256x2x64 : Shape := ⟨4, ![4, 256, 2, 64]⟩
abbrev S4x4096x2x64 : Shape := ⟨4, ![4, 4096, 2, 64]⟩
abbrev S4x4352x2x64 : Shape := ⟨4, ![4, 4352, 2, 64]⟩
abbrev S4x4096x2x4x64 : Shape := ⟨5, ![4, 4096, 2, 4, 64]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S4x4096x512 : Shape := ⟨3, ![4, 4096, 512]⟩
abbrev S4x512x4096 : Shape := ⟨3, ![4, 512, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x256x2x64, .f32⟩
  | .hbm, ⟨2, _⟩ => ⟨S4x256x2x64, .f32⟩
  | .hbm, ⟨3, _⟩ => ⟨S4x4096x2x64, .f32⟩
  | .hbm, ⟨4, _⟩ => ⟨S4x4096x2x64, .f32⟩
  | .hbm, ⟨5, _⟩ => ⟨S4x4352x2x64, .f32⟩
  | .hbm, ⟨6, _⟩ => ⟨S4x4352x2x64, .f32⟩
  | .hbm, ⟨7, _⟩ => ⟨S4x4096x2x4x64, .f32⟩
  | .hbm, ⟨8, _⟩ => ⟨S4x2x4352x4096x4, .f32⟩
  | .hbm, ⟨9, _⟩ => ⟨S4x2x4x4096x4352, .f32⟩
  | .hbm, ⟨10, _⟩ => ⟨S_, .f32⟩
  | .hbm, ⟨11, _⟩ => ⟨S4x2x4x4096x4352, .f32⟩
  | .hbm, ⟨12, _⟩ => ⟨S4x2x4x4096x4352, .f32⟩
  | .hbm, ⟨13, _⟩ => ⟨S_, .f32⟩
  | .hbm, ⟨14, _⟩ => ⟨S4x2x4x4096, .f32⟩
  | .hbm, ⟨15, _⟩ => ⟨S_, .f32⟩
  | .hbm, ⟨16, _⟩ => ⟨S4x2x4x4096, .f32⟩
  | .hbm, ⟨17, _⟩ => ⟨S4x2x4x4096, .f32⟩
  | .hbm, ⟨18, _⟩ => ⟨S4x2x4x4096x1, .f32⟩
  | .hbm, ⟨19, _⟩ => ⟨S4x2x4x4096x4352, .f32⟩
  | .hbm, ⟨20, _⟩ => ⟨S4x2x4x4096x4352, .f32⟩
  | .hbm, ⟨21, _⟩ => ⟨S4x2x4x4096x4352, .f32⟩
  | .hbm, ⟨22, _⟩ => ⟨S_, .f32⟩
  | .hbm, ⟨23, _⟩ => ⟨S4x2x4x4096, .f32⟩
  | .hbm, ⟨24, _⟩ => ⟨S4x2x4x4096x1, .f32⟩
  | .hbm, ⟨25, _⟩ => ⟨S4x2x4x4096x4352, .f32⟩
  | .hbm, ⟨26, _⟩ => ⟨S4x2x4x4096x4352, .f32⟩
  | .hbm, ⟨27, _⟩ => ⟨S4x2x64x4x4096, .f32⟩
  | .hbm, ⟨28, _⟩ => ⟨S4x4096x2x4x64, .f32⟩
  | .hbm, ⟨29, _⟩ => ⟨S4x4096x512, .f32⟩
  | .hbm, ⟨30, _⟩ => ⟨S4x512x4096, .f32⟩
  | .hbm, ⟨31, _⟩ => ⟨S4x512x4096, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x8x6144 : Shape := ⟨3, ![2, 8, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S4x8x512x1024 : Shape := ⟨4, ![4, 8, 512, 1024]⟩
abbrev S4x512x8x1024 : Shape := ⟨4, ![4, 512, 8, 1024]⟩
abbrev S16384x1024 : Shape := ⟨2, ![16384, 1024]⟩
abbrev S16x1x6144 : Shape := ⟨3, ![16, 1, 6144]⟩
abbrev S2x1x5632 : Shape := ⟨3, ![2, 1, 5632]⟩
abbrev S1x1024 : Shape := ⟨2, ![1, 1024]⟩
abbrev S1024x1024 : Shape := ⟨2, ![1024, 1024]⟩
abbrev S8x1024 : Shape := ⟨2, ![8, 1024]⟩
abbrev S1x1x3072 : Shape := ⟨3, ![1, 1, 3072]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x8x128x1024 : Shape := ⟨4, ![1, 8, 128, 1024]⟩
abbrev S1056x1024 : Shape := ⟨2, ![1056, 1024]⟩
abbrev S1024x2816 : Shape := ⟨2, ![1024, 2816]⟩
abbrev S2x1056x256 : Shape := ⟨3, ![2, 1056, 256]⟩
abbrev S8x1024x128 : Shape := ⟨3, ![8, 1024, 128]⟩
abbrev S1x1x1024 : Shape := ⟨3, ![1, 1, 1024]⟩
abbrev S1024x1 : Shape := ⟨2, ![1024, 1]⟩
abbrev S8 : Shape := ⟨1, ![8]⟩
abbrev S8x1 : Shape := ⟨2, ![8, 1]⟩
abbrev S16x1024 : Shape := ⟨2, ![16, 1024]⟩
abbrev S1x1024x256 : Shape := ⟨3, ![1, 1024, 256]⟩
abbrev S1024x256 : Shape := ⟨2, ![1024, 256]⟩
abbrev S1056x256 : Shape := ⟨2, ![1056, 256]⟩
abbrev S1x1056x256 : Shape := ⟨3, ![1, 1056, 256]⟩
abbrev S1x1x256 : Shape := ⟨3, ![1, 1, 256]⟩
abbrev S1x256 : Shape := ⟨2, ![1, 256]⟩
abbrev S2816x1024 : Shape := ⟨2, ![2816, 1024]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 16
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S1024, .f32⟩
  | .hbm, ⟨7, _⟩ => ⟨S4x8x512x1024, .f32⟩
  | .hbm, ⟨8, _⟩ => ⟨S4x512x8x1024, .f32⟩
  | .hbm, ⟨9, _⟩ => ⟨S16384x1024, .f32⟩
  | .hbm, ⟨10, _⟩ => ⟨S16x1x6144, .f32⟩
  | .hbm, ⟨11, _⟩ => ⟨S2x1024x5632, .bf16⟩
  | .hbm, ⟨12, _⟩ => ⟨S2x2816x1024, .bf16⟩
  | .hbm, ⟨13, _⟩ => ⟨S2x1x5632, .f32⟩
  | .hbm, ⟨14, _⟩ => ⟨S1x1024, .f32⟩
  | .hbm, ⟨15, _⟩ => ⟨S4x8x512x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024x5632, .bf16⟩
  | .local _ .vmem, ⟨9, _⟩ => ⟨S1x3x5632, .f32⟩
  | .local _ .vmem, ⟨10, _⟩ => ⟨S1x1x5632, .f32⟩
  | .local _ .vmem, ⟨11, _⟩ => ⟨S1x2816x1024, .bf16⟩
  | .local _ .vmem, ⟨12, _⟩ => ⟨S1x1024, .f32⟩
  | .local _ .vmem, ⟨13, _⟩ => ⟨S1x8x128x1024, .f32⟩
  | .local _ .vmem, ⟨14, _⟩ => ⟨S1x8x128x1024, .f32⟩
  | .local _ .vmem, ⟨15, _⟩ => ⟨S1056x1024, .bf16⟩
  | .local _ .vmem, ⟨16, _⟩ => ⟨S1024x2816, .bf16⟩
  | .local _ .vmem, ⟨17, _⟩ => ⟨S2x1056x256, .f32⟩
  | .local _ .vmem, ⟨18, _⟩ => ⟨S2x1056x256, .f32⟩
  | .local _ .vmem, ⟨19, _⟩ => ⟨S8x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_mult1 : BitVec 32 :=
  let c0_i32_37 : BitVec 32 := 0#32
  c0_i32_37
def k0_mult2 : BitVec 32 :=
  let c2816_i32 : BitVec 32 := 2816#32
  c2816_i32
def k0_mult3 : BitVec 32 :=
  let c256_i32 : BitVec 32 := 256#32
  c256_i32
def k0_mult4 : BitVec 32 :=
  let c3072_i32 : BitVec 32 := 3072#32
  c3072_i32
def k0_mult5 : BitVec 32 :=
  let c0_i32_69 : BitVec 32 := 0#32
  c0_i32_69
def k0_mult6 : BitVec 32 :=
  let c2816_i32_70 : BitVec 32 := 2816#32
  c2816_i32_70
def k0_mult7 : BitVec 32 :=
  let c512_i32 : BitVec 32 := 512#32
  c512_i32
def k0_mult8 : BitVec 32 :=
  let c3328_i32 : BitVec 32 := 3328#32
  c3328_i32
def k0_mult9 : BitVec 32 :=
  let c256_i32_120 : BitVec 32 := 256#32
  c256_i32_120
def k0_mult10 : BitVec 32 :=
  let c3072_i32_121 : BitVec 32 := 3072#32
  c3072_i32_121
def k0_mult11 : BitVec 32 :=
  let c768_i32 : BitVec 32 := 768#32
  c768_i32
def k0_mult12 : BitVec 32 :=
  let c3584_i32 : BitVec 32 := 3584#32
  c3584_i32
def k0_mult13 : BitVec 32 :=
  let c512_i32_174 : BitVec 32 := 512#32
  c512_i32_174
def k0_mult14 : BitVec 32 :=
  let c3328_i32_175 : BitVec 32 := 3328#32
  c3328_i32_175
def k0_mult15 : BitVec 32 :=
  let c1024_i32 : BitVec 32 := 1024#32
  c1024_i32
def k0_mult16 : BitVec 32 :=
  let c3840_i32 : BitVec 32 := 3840#32
  c3840_i32
def k0_mult17 : BitVec 32 :=
  let c768_i32_228 : BitVec 32 := 768#32
  c768_i32_228
def k0_mult18 : BitVec 32 :=
  let c3584_i32_229 : BitVec 32 := 3584#32
  c3584_i32_229
def k0_mult19 : BitVec 32 :=
  let c1280_i32 : BitVec 32 := 1280#32
  c1280_i32
def k0_mult20 : BitVec 32 :=
  let c4096_i32 : BitVec 32 := 4096#32
  c4096_i32
def k0_mult21 : BitVec 32 :=
  let c1024_i32_282 : BitVec 32 := 1024#32
  c1024_i32_282
def k0_mult22 : BitVec 32 :=
  let c3840_i32_283 : BitVec 32 := 3840#32
  c3840_i32_283
def k0_mult23 : BitVec 32 :=
  let c1536_i32 : BitVec 32 := 1536#32
  c1536_i32
def k0_mult24 : BitVec 32 :=
  let c4352_i32 : BitVec 32 := 4352#32
  c4352_i32
def k0_mult25 : BitVec 32 :=
  let c1280_i32_336 : BitVec 32 := 1280#32
  c1280_i32_336
def k0_mult26 : BitVec 32 :=
  let c4096_i32_337 : BitVec 32 := 4096#32
  c4096_i32_337
def k0_mult27 : BitVec 32 :=
  let c1792_i32 : BitVec 32 := 1792#32
  c1792_i32
def k0_mult28 : BitVec 32 :=
  let c4608_i32 : BitVec 32 := 4608#32
  c4608_i32
def k0_mult29 : BitVec 32 :=
  let c1536_i32_390 : BitVec 32 := 1536#32
  c1536_i32_390
def k0_mult30 : BitVec 32 :=
  let c4352_i32_391 : BitVec 32 := 4352#32
  c4352_i32_391
def k0_mult31 : BitVec 32 :=
  let c2048_i32 : BitVec 32 := 2048#32
  c2048_i32
def k0_mult32 : BitVec 32 :=
  let c4864_i32 : BitVec 32 := 4864#32
  c4864_i32
def k0_mult33 : BitVec 32 :=
  let c1792_i32_444 : BitVec 32 := 1792#32
  c1792_i32_444
def k0_mult34 : BitVec 32 :=
  let c4608_i32_445 : BitVec 32 := 4608#32
  c4608_i32_445
def k0_mult35 : BitVec 32 :=
  let c2304_i32 : BitVec 32 := 2304#32
  c2304_i32
def k0_mult36 : BitVec 32 :=
  let c5120_i32 : BitVec 32 := 5120#32
  c5120_i32
def k0_mult37 : BitVec 32 :=
  let c2048_i32_498 : BitVec 32 := 2048#32
  c2048_i32_498
def k0_mult38 : BitVec 32 :=
  let c4864_i32_499 : BitVec 32 := 4864#32
  c4864_i32_499
def k0_mult39 : BitVec 32 :=
  let c2560_i32 : BitVec 32 := 2560#32
  c2560_i32
def k0_mult40 : BitVec 32 :=
  let c5376_i32 : BitVec 32 := 5376#32
  c5376_i32
def k0_mult41 : BitVec 32 :=
  let c2304_i32_552 : BitVec 32 := 2304#32
  c2304_i32_552
def k0_mult42 : BitVec 32 :=
  let c5120_i32_553 : BitVec 32 := 5120#32
  c5120_i32_553
def k0_mult43 : BitVec 32 :=
  let c2560_i32_590 : BitVec 32 := 2560#32
  c2560_i32_590
def k0_mult44 : BitVec 32 :=
  let c5376_i32_591 : BitVec 32 := 5376#32
  c5376_i32_591
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c512_i32 : BitVec 32 := 512#32
  let v27 : BitVec 32 := Scalar.muli v26 c512_i32
  let c0_i32_10 : BitVec 32 := 0#32
  let v28 : BitVec 1 := Scalar.cmpi .eq v9 c0_i32_10
  let c128_i32 : BitVec 32 := 128#32
  let v29 : BitVec 32 := Scalar.muli v9 c128_i32
  let c1_i32_11 : BitVec 32 := 1#32
  let v30 : BitVec 32 := Scalar.subi v29 c1_i32_11
  let c511_i32 : BitVec 32 := 511#32
  let v31 : BitVec 32 := Scalar.select v28 c511_i32 v30
  let v32 : BitVec 32 := Scalar.addi v27 v31
  let c0_i32_12 : BitVec 32 := 0#32
  let c0_i32_13 : BitVec 32 := 0#32
  ![v32.toNat, c0_i32_12.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c512_i32 : BitVec 32 := 512#32
  let v27 : BitVec 32 := Scalar.muli v26 c512_i32
  let c3_i32 : BitVec 32 := 3#32
  let v28 : BitVec 1 := Scalar.cmpi .eq v9 c3_i32
  let c1_i32_10 : BitVec 32 := 1#32
  let v29 : BitVec 32 := Scalar.addi v9 c1_i32_10
  let c128_i32 : BitVec 32 := 128#32
  let v30 : BitVec 32 := Scalar.muli v29 c128_i32
  let c0_i32_11 : BitVec 32 := 0#32
  let v31 : BitVec 32 := Scalar.select v28 c0_i32_11 v30
  let v32 : BitVec 32 := Scalar.addi v27 v31
  let c0_i32_12 : BitVec 32 := 0#32
  let c0_i32_13 : BitVec 32 := 0#32
  ![v32.toNat, c0_i32_12.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c1_i32_5 : BitVec 32 := 1#32
  let c0_i32_6 : BitVec 32 := 0#32
  ![v17.toNat, c0_i32_4.toNat, c1_i32_5.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S2x8x6144 : Shape := ⟨3, ![2, 8, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4098x5632 : Shape := ⟨3, ![4, 4098, 5632]⟩
abbrev S1x1x5632 : Shape := ⟨3, ![1, 1, 5632]⟩
abbrev S4x4096x2816 : Shape := ⟨3, ![4, 4096, 2816]⟩
abbrev S1x1x1024 : Shape := ⟨3, ![1, 1, 1024]⟩
abbrev S4x8x512x1024 : Shape := ⟨4, ![4, 8, 512, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S1024, .f32⟩
  | .hbm, ⟨7, _⟩ => ⟨S1x4x6144, .f32⟩
  | .hbm, ⟨8, _⟩ => ⟨S4x6144, .f32⟩
  | .hbm, ⟨9, _⟩ => ⟨S4x1x6144, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S1x1024x5632, .f32⟩
  | .hbm, ⟨37, _⟩ => ⟨S1024x5632, .f32⟩
  | .hbm, ⟨38, _⟩ => ⟨S1x3x5632, .f32⟩
  | .hbm, ⟨39, _⟩ => ⟨S3x5632, .f32⟩
  | .hbm, ⟨40, _⟩ => ⟨S1x5632, .f32⟩
  | .hbm, ⟨41, _⟩ => ⟨S5632, .f32⟩
  | .hbm, ⟨42, _⟩ => ⟨S1x2816x1024, .f32⟩
  | .hbm, ⟨43, _⟩ => ⟨S2816x1024, .f32⟩
  | .hbm, ⟨44, _⟩ => ⟨S4x4096x5632, .f32⟩
  | .hbm, ⟨45, _⟩ => ⟨S_, .i32⟩
  | .hbm, ⟨46, _⟩ => ⟨S_, .f32⟩
  | .hbm, ⟨47, _⟩ => ⟨S4x4098x5632, .f32⟩
  | .hbm, ⟨48, _⟩ => ⟨S4x4096x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S4x4096x5632, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S4x4096x5632, .f32⟩
  | .hbm, ⟨66, _⟩ => ⟨S4x4096x5632, .f32⟩
  | .hbm, ⟨67, _⟩ => ⟨S4x4096x5632, .f32⟩
  | .hbm, ⟨68, _⟩ => ⟨S1x1x5632, .f32⟩
  | .hbm, ⟨69, _⟩ => ⟨S4x4096x5632, .f32⟩
  | .hbm, ⟨70, _⟩ => ⟨S4x4096x5632, .f32⟩
  | .hbm, ⟨71, _⟩ => ⟨S4x4096x2816, .f32⟩
  | .hbm, ⟨72, _⟩ => ⟨S4x4096x2816, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S_, .f32⟩
  | .hbm, ⟨79, _⟩ => ⟨S4x4096x2816, .f32⟩
  | .hbm, ⟨80, _⟩ => ⟨S4x4096x2816, .f32⟩
  | .hbm, ⟨81, _⟩ => ⟨S4x4096x2816, .f32⟩
  | .hbm, ⟨82, _⟩ => ⟨S4x4096x2816, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S_, .f32⟩
  | .hbm, ⟨89, _⟩ => ⟨S4x4096, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S_, .f32⟩
  | .hbm, ⟨95, _⟩ => ⟨S4x4096x1, .f32⟩
  | .hbm, ⟨96, _⟩ => ⟨S4x4096x1, .f32⟩
  | .hbm, ⟨97, _⟩ => ⟨S4x4096x1, .f32⟩
  | .hbm, ⟨98, _⟩ => ⟨S4x4096x1024, .f32⟩
  | .hbm, ⟨99, _⟩ => ⟨S4x4096x1024, .f32⟩
  | .hbm, ⟨100, _⟩ => ⟨S1x1x1024, .f32⟩
  | .hbm, ⟨101, _⟩ => ⟨S4x4096x1024, .f32⟩
  | .hbm, ⟨102, _⟩ => ⟨S4x4096x1024, .f32⟩
  | .hbm, ⟨103, _⟩ => ⟨S4x8x512x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_3 : Ref sig .tc := ⟨.hbm, 88, rfl⟩
abbrev main_v67 : Ref sig .tc := ⟨.hbm, 89, rfl⟩
abbrev main_v68 : Ref sig .tc := ⟨.hbm, 90, rfl⟩
abbrev main_cst_4 : Ref sig .tc := ⟨.hbm, 91, rfl⟩
abbrev main_v69 : Ref sig .tc := ⟨.hbm, 92, rfl⟩
abbrev main_v70 : Ref sig .tc := ⟨.hbm, 93, rfl⟩
abbrev main_cst_5 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Proof.Steps.lean ====
/- The steps of the attention body, as functions of the arrays they read: the queries of one key/value head side by
   side, the context's scores, the start of the accumulator, one chunk of the latent stream with a shift decided two
   chunks before, one chunk with the running maximum, and the division at the end. Over any float values. -/
module

public import proofs.«01_k».proof.Proof.Gen.KernelIdeal.Skeleton
public import Idealize.ShloMosaic.Lib.Pipeline.FrameBody

@[expose] public section

noncomputable section

namespace Cert.Attn

open Idealize.ShloMosaic Idealize.ShloMosaic.TcCoe Idealize.SL.Sem
open Cert.KernelIdeal Cert.KernelIdeal.Gen

variable {F : FTy → Type} [FloatOps F]

/-! ## The pieces of the blocks that the body reads -/

theorem inb_q (h : ℕ) (hh : h < 8) : ∀ a, ![0, h, 0, 0] a + S1x1x64x256.size a ≤ S1x8x64x256.size a := by
  intro a; fin_cases a <;> simp [S1x1x64x256, S1x8x64x256] <;> omega

theorem inb_kc (g : ℕ) (hg : g < 2) : ∀ a, ![0, g, 0, 0] a + S1x1x256x64.size a ≤ S1x2x256x128.size a := by
  intro a; fin_cases a <;> simp [S1x1x256x64, S1x2x256x128] <;> omega

theorem inb_vc (g : ℕ) (hg : g < 2) : ∀ a, ![0, g, 0, 0] a + S1x1x80x256.size a ≤ S1x2x80x256.size a := by
  intro a; fin_cases a <;> simp [S1x1x80x256, S1x2x80x256] <;> omega

theorem inb_kl (g c : ℕ) (hg : g < 2) (hc : c < 8) :
    ∀ a, ![0, g, 512 * c, 0] a + S1x1x512x128.size a ≤ S1x2x4096x128.size a := by
  intro a; fin_cases a <;> simp [S1x1x512x128, S1x2x4096x128] <;> omega

theorem inb_kl' (g c : ℕ) (hg : g < 2) (hc : c < 8) :
    ∀ a, ![0, g, 512 * c, 0] a + S1x1x512x64.size a ≤ S1x2x4096x128.size a := by
  intro a; fin_cases a <;> simp [S1x1x512x64, S1x2x4096x128] <;> omega

theorem inb_vl (g c : ℕ) (hg : g < 2) (hc : c < 8) :
    ∀ a, ![0, g, 0, 512 * c] a + S1x1x80x512.size a ≤ S1x2x80x4096.size a := by
  intro a; fin_cases a <;> simp [S1x1x80x512, S1x2x80x4096] <;> omega

theorem inb_o (h : ℕ) (hh : h < 8) : ∀ a, ![0, 64 * h, 0] a + S1x64x256.size a ≤ S1x512x256.size a := by
  intro a; fin_cases a <;> simp [S1x64x256, S1x512x256] <;> omega

/-- Head `h`'s queries in the block of queries. -/
abbrev rQ (h : ℕ) (hh : h < 8) : Rect S1x8x64x256 := Rect.unit (s := S1x8x64x256) ![0, h, 0, 0] S1x1x64x256.size (inb_q h hh)
/-- Key/value head `g`'s context keys (the first 64 columns), -/
abbrev rKc (g : ℕ) (hg : g < 2) : Rect S1x2x256x128 := Rect.unit (s := S1x2x256x128) ![0, g, 0, 0] S1x1x256x64.size (inb_kc g hg)
/-- its context values, -/
abbrev rVc (g : ℕ) (hg : g < 2) : Rect S1x2x80x256 := Rect.unit (s := S1x2x80x256) ![0, g, 0, 0] S1x1x80x256.size (inb_vc g hg)
/-- chunk `c` of its latent keys, all 128 columns, -/
abbrev rKl (g c : ℕ) (hg : g < 2) (hc : c < 8) : Rect S1x2x4096x128 :=
  Rect.unit (s := S1x2x4096x128) ![0, g, 512 * c, 0] S1x1x512x128.size (inb_kl g c hg hc)
/-- the same chunk's first 64 columns, -/
abbrev rKl' (g c : ℕ) (hg : g < 2) (hc : c < 8) : Rect S1x2x4096x128 :=
  Rect.unit (s := S1x2x4096x128) ![0, g, 512 * c, 0] S1x1x512x64.size (inb_kl' g c hg hc)
/-- and chunk `c` of its latent values. -/
abbrev rVl (g c : ℕ) (hg : g < 2) (hc : c < 8) : Rect S1x2x80x4096 :=
  Rect.unit (s := S1x2x80x4096) ![0, g, 0, 512 * c] S1x1x80x512.size (inb_vl g c hg hc)
/-- Head `h`'s rows of the block of results. -/
abbrev rO (h : ℕ) (hh : h < 8) : Rect S1x512x256 := Rect.unit (s := S1x512x256) ![0, 64 * h, 0] S1x64x256.size (inb_o h hh)

/-! ## The steps -/

/-- Four heads' queries side by side. -/
def qcat (a b c d : Vec F S1x1x64x256 .bf16) : FVec F S64x1024 .bf16 :=
  concatenate S64x1024 1 [⟨S64x256, shapeCast S64x256 a shapeCasts_S1x1x64x256_S64x256⟩,
    ⟨S64x256, shapeCast S64x256 b shapeCasts_S1x1x64x256_S64x256⟩,
    ⟨S64x256, shapeCast S64x256 c shapeCasts_S1x1x64x256_S64x256⟩,
    ⟨S64x256, shapeCast S64x256 d shapeCasts_S1x1x64x256_S64x256⟩]
    concatenates_S64x256_S64x256_S64x256_S64x256_S64x1024_d1

/-- The context keys' scores. -/
def ctxScores (k : Vec F S1x1x256x64 .bf16) (q : FVec F S64x1024 .bf16) : FVec F S256x1024 .f32 :=
  matmul dot_S256x64_S64x1024_S256x1024_1_0_0_1_n_n none (shapeCast S256x64 k shapeCasts_S1x1x256x64_S256x64) q
    (constant S256x1024 .f32 0x00000000#32)

/-- Their maximum, column by column. -/
def ctxMax (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The context values weighted by the powers of two of the scores less `w`. -/
def ctxAcc (v : Vec F S1x1x80x256 .bf16) (s : FVec F S256x1024 .f32) (w : FVec F S1x1024 .f32) : FVec F S80x1024 .f32 :=
  matmul dot_S80x256_S256x1024_S80x1024_1_0_0_1_n_n none (shapeCast S80x256 v shapeCasts_S1x1x80x256_S80x256)
    (truncf .bf16 (exp2 (subf s (broadcastTo S256x1024 w broadcasts_S1x1024_S256x1024))) bitsLt_bf16_f32)
    (constant S80x1024 .f32 0x00000000#32)

/-- A row rounded to half width and back. -/
def roundTrip (w : FVec F S1x1024 .f32) : FVec F S1x1024 .f32 :=
  extf .f32 (truncf .bf16 w bitsLt_bf16_f32) bitsLt_bf16_f32

/-- The queries, the shift's rows (the negated shift, then fifteen rows of zeros) and 48 rows of zeros. -/
def augmented (q : FVec F S64x1024 .bf16) (w : FVec F S1x1024 .f32) : FVec F S128x1024 .bf16 :=
  concatenate S128x1024 0 [⟨S64x1024, q⟩,
    ⟨S16x1024, truncf .bf16 (select (cmpi .eq (iota .tc S16x1024 32 [0] iota_S16x1024_d0_w32) (broadcast S16x1024 0#32))
      (broadcastTo S16x1024 (shapeCast S1x1024 (subf (broadcast S1x1024 (Scalar.ofBits .f32 0x00000000#32)) w)
        shapeCasts_S1x1024_S1x1024) broadcasts_S1x1024_S16x1024)
      (broadcast S16x1024 (Scalar.ofBits .f32 0x00000000#32))) bitsLt_bf16_f32⟩,
    ⟨S48x1024, broadcast S48x1024 (Scalar.ofBits .bf16 0x0000#16)⟩]
    concatenates_S64x1024_S16x1024_S48x1024_S128x1024_d0

/-- One chunk's scores less the shift: the keys' one-hot column meets the shift's first row. -/
def shiftedScores (k : Vec F S1x1x512x128 .bf16) (q : FVec F S64x1024 .bf16) (w : FVec F S1x1024 .f32) :
    FVec F S512x1024 .f32 :=
  matmul dot_S512x128_S128x1024_S512x1024_1_0_0_1_n_n none (shapeCast S512x128 k shapeCasts_S1x1x512x128_S512x128)
    (augmented q w) (constant S512x1024 .f32 0x00000000#32)

/-- A chunk's maximum, column by column. -/
def chunkMax (s : FVec F S512x1024 .f32) : FVec F S1x1024 .f32 :=
  shapeCast S1x1024 (multiReduction .maximumf [0] S1024 s 0xFF800000#32 reduces_S512x1024_S1024 (.inl rfl) rfl)
    shapeCasts_S1024_S1x1024

/-- A chunk's values weighted by `p`. -/
def chunkSum (v : Vec F S1x1x80x512 .bf16) (p : FVec F S512x1024 .f32) : FVec F S80x1024 .f32 :=
  matmul dot_S80x512_S512x1024_S80x1024_1_0_0_1_n_n none (shapeCast S80x512 v shapeCasts_S1x1x80x512_S80x512)
    (truncf .bf16 p bitsLt_bf16_f32) (constant S80x1024 .f32 0x00000000#32)

/-- What the shifted form carries from chunk to chunk: the accumulator, the running estimate of the maximum, the shift
    of the accumulator, the next two chunks' shifts, and the largest weight seen. -/
structure St (F : FTy → Type) where
  acc : FVec F S80x1024 .f32
  run : FVec F S1x1024 .f32
  old : FVec F S1x1024 .f32
  nxt : FVec F S1x1024 .f32
  nxt2 : FVec F S1x1024 .f32
  big : FVec F S1x1024 .f32

/-- The state after the context. -/
def start (k : Vec F S1x1x256x64 .bf16) (v : Vec F S1x1x80x256 .bf16) (q : FVec F S64x1024 .bf16) : St F where
  acc := ctxAcc v (ctxScores k q) (roundTrip (ctxMax (ctxScores k q)))
  run := ctxMax (ctxScores k q)
  old := roundTrip (ctxMax (ctxScores k q))
  nxt := roundTrip (ctxMax (ctxScores k q))
  nxt2 := roundTrip (ctxMax (ctxScores k q))
  big := broadcast S1x1024 (Scalar.ofBits .f32 0x3F800000#32)

/-- The running estimate after a chunk with weights `p` and shift `w`. -/
def newRun (p : FVec F S512x1024 .f32) (run w : FVec F S1x1024 .f32) : FVec F S1x1024 .f32 :=
  maximumf run (addf w (mulf (log (chunkMax p)) (broadcast S1x1024 (Scalar.ofBits .f32 0x3FB8AA3B#32))))

/-- The accumulator after a chunk with weights `p` and shift `w`. -/
def newAcc (v : Vec F S1x1x80x512 .bf16) (p : FVec F S512x1024 .f32) (acc : FVec F S80x1024 .f32)
    (old w : FVec F S1x1024 .f32) : FVec F S80x1024 .f32 :=
  addf (mulf acc (broadcastTo S80x1024 (exp2 (subf old w)) broadcasts_S1x1024_S80x1024)) (chunkSum v p)

/-- One chunk of the shifted form. -/
def step (k : Vec F S1x1x512x128 .bf16) (v : Vec F S1x1x80x512 .bf16) (q : FVec F S64x1024 .bf16) (st : St F) : St F where
  acc := newAcc v (exp2 (shiftedScores k q st.nxt)) st.acc st.old st.nxt
  run := newRun (exp2 (shiftedScores k q st.nxt)) st.run st.nxt
  old := st.nxt
  nxt := st.nxt2
  nxt2 := roundTrip (newRun (exp2 (shiftedScores k q st.nxt)) st.run st.nxt)
  big := maximumf st.big (chunkMax (exp2 (shiftedScores k q st.nxt)))

/-- One chunk's scores in the form with the running maximum, -/
def plainScores (k : Vec F S1x1x512x64 .bf16) (q : FVec F S64x1024 .bf16) : FVec F S512x1024 .f32 :=
  matmul dot_S512x64_S64x1024_S512x1024_1_0_0_1_n_n none (shapeCast S512x64 k shapeCasts_S1x1x512x64_S512x64) q
    (constant S512x1024 .f32 0x00000000#32)

/-- the running maximum after it, -/
def exactMax (k : Vec F S1x1x512x64 .bf16) (q : FVec F S64x1024 .bf16) (mx : FVec F S1x1024 .f32) : FVec F S1x1024 .f32 :=
  maximumf mx (chunkMax (plainScores k q))

/-- and the maximum and the accumulator after it. -/
def exactStep (k : Vec F S1x1x512x64 .bf16) (v : Vec F S1x1x80x512 .bf16) (q : FVec F S64x1024 .bf16)
    (st : FVec F S1x1024 .f32 × FVec F S80x1024 .f32) : FVec F S1x1024 .f32 × FVec F S80x1024 .f32 :=
  (exactMax k q st.1,
    addf (mulf (broadcastTo S80x1024 (exp2 (subf st.1 (exactMax k q st.1))) broadcasts_S1x1024_S80x1024) st.2)
      (chunkSum v (exp2 (subf (plainScores k q)
        (broadcastTo S512x1024 (exactMax k q st.1) broadcasts_S1x1024_S512x1024)))))

/-- The start of the form with the running maximum. -/
def exactStart (k : Vec F S1x1x256x64 .bf16) (v : Vec F S1x1x80x256 .bf16) (q : FVec F S64x1024 .bf16) :
    FVec F S1x1024 .f32 × FVec F S80x1024 .f32 :=
  (ctxMax (ctxScores k q), ctxAcc v (ctxScores k q) (ctxMax (ctxScores k q)))

/-- The value rows over the row of ones. -/
def finish (acc : FVec F S80x1024 .f32) : FVec F S64x1024 .f32 :=
  mulf (extractStridedSlice S64x1024 ![0, 0] acc slices_S80x1024_o0_0_S64x1024)
    (broadcastTo S64x1024 (divf (broadcast S1x1024 (Scalar.ofBits .f32 0x3F800000#32))
      (extractStridedSlice S1x1024 ![64, 0] acc slices_S80x1024_o64_0_S1x1024)) broadcasts_S1x1024_S64x1024)

theorem slices_head (j : ℕ) (hj : j < 4) : Shape.Slices S64x1024 ![0, 256 * j] S64x256 := by
  obtain rfl | rfl | rfl | rfl : j = 0 ∨ j = 1 ∨ j = 2 ∨ j = 3 := by omega
  · exact slices_S64x1024_o0_0_S64x256
  · exact slices_S64x1024_o0_256_S64x256
  · exact slices_S64x1024_o0_512_S64x256
  · exact slices_S64x1024_o0_768_S64x256

/-- Head `j` of the four: its 256 columns. -/
def headOut (j : ℕ) (hj : j < 4) (o : FVec F S64x1024 .f32) : FVec F S1x64x256 .bf16 :=
  shapeCast S1x64x256 (truncf .bf16 (extractStridedSlice S64x256 ![0, 256 * j] o (slices_head j hj)) bitsLt_bf16_f32)
    shapeCasts_S64x256_S1x64x256

/-! ## The body's result, from the blocks it reads -/

section Blocks

variable (x0 : Vec F S1x8x64x256 .bf16) (x1 : Vec F S1x2x256x128 .bf16) (x2 : Vec F S1x2x80x256 .bf16)
  (x3 : Vec F S1x2x4096x128 .bf16) (x4 : Vec F S1x2x80x4096 .bf16)

/-- Key/value head `g`'s queries. -/
def queries (g : ℕ) (hg : g < 2) : FVec F S64x1024 .bf16 :=
  qcat (View.ld x0 (rQ (4 * g) (by omega))) (View.ld x0 (rQ (4 * g + 1) (by omega)))
    (View.ld x0 (rQ (4 * g + 2) (by omega))) (View.ld x0 (rQ (4 * g + 3) (by omega)))

/-- The shifted form after `n` chunks. -/
def fast (g : ℕ) (hg : g < 2) : (n : ℕ) → n ≤ 8 → St F
  | 0, _ => start (View.ld x1 (rKc g hg)) (View.ld x2 (rVc g hg)) (queries x0 g hg)
  | n + 1, h => step (View.ld x3 (rKl g n hg h)) (View.ld x4 (rVl g n hg h)) (queries x0 g hg) (fast g hg n (by omega))

/-- The form with the running maximum after `n` chunks. -/
def exact (g : ℕ) (hg : g < 2) : (n : ℕ) → n ≤ 8 → FVec F S1x1024 .f32 × FVec F S80x1024 .f32
  | 0, _ => exactStart (View.ld x1 (rKc g hg)) (View.ld x2 (rVc g hg)) (queries x0 g hg)
  | n + 1, h => exactStep (View.ld x3 (rKl' g n hg h)) (View.ld x4 (rVl g n hg h)) (queries x0 g hg)
      (exact g hg n (by omega))

/-- The eight heads' results of two accumulators, in the order in which the body stores them (last first). -/
def pieces (a0 a1 : FVec F S80x1024 .f32) : List (View.Piece (Elt F) S1x512x256 .bf16) :=
  [⟨rO 7 (by omega), headOut 3 (by omega) (finish a1)⟩, ⟨rO 6 (by omega), headOut 2 (by omega) (finish a1)⟩,
   ⟨rO 5 (by omega), headOut 1 (by omega) (finish a1)⟩, ⟨rO 4 (by omega), headOut 0 (by omega) (finish a1)⟩,
   ⟨rO 3 (by omega), headOut 3 (by omega) (finish a0)⟩, ⟨rO 2 (by omega), headOut 2 (by omega) (finish a0)⟩,
   ⟨rO 1 (by omega), headOut 1 (by omega) (finish a0)⟩, ⟨rO 0 (by omega), headOut 0 (by omega) (finish a0)⟩]

/-- The largest weight of the shifted form over both heads. -/
def largest : F .f32 :=
  k0_pay5 (fast x0 x1 x2 x3 x4 0 (by omega) 8 le_rfl).big (fast x0 x1 x2 x3 x4 1 (by omega) 8 le_rfl).big

/-- The body takes the form with the running maximum when the largest weight passes a bound. -/
def over : BitVec 1 :=
  Scalar.cmpi .ne (Scalar.extui (Scalar.cmpf .ogt (largest x0 x1 x2 x3 x4) (Scalar.ofBits .f32 0x5D800000#32)) : BitVec 32) 0#32

/-- What the body leaves in its block of results. -/
def outBlk : Vec F S1x512x256 .bf16 :=
  if over x0 x1 x2 x3 x4 = 1#1 then
    View.canon (pieces (exact x0 x1 x2 x3 x4 0 (by omega) 8 le_rfl).2 (exact x0 x1 x2 x3 x4 1 (by omega) 8 le_rfl).2)
  else
    View.canon (pieces (fast x0 x1 x2 x3 x4 0 (by omega) 8 le_rfl).acc (fast x0 x1 x2 x3 x4 1 (by omega) 8 le_rfl).acc)

end Blocks

end Cert.Attn

end
-- ==== Proof.Trips.lean ====
/- The two counted loops of the form with the running maximum: after `n` trips each carries what `Attn.exact` says. -/
module

public import proofs.«01_k».proof.Proof.Steps
public import proofs.«01_k».proof.Proof.Gen.KernelIdeal.Frame
public import proofs.«01_k».proof.Proof.Gen.KernelIdeal.Loops

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F]

/-- Loads of one box at two spellings of its offset. -/
theorem ld_off {S : Shape} {e : EltTy} (X : S.Idx → Elt F e) {o o' sz : Fin S.rank → ℕ} (h : ∀ a, o a + sz a ≤ S.size a)
    (h' : ∀ a, o' a + sz a ≤ S.size a) (ho : o = o') :
    (View.ld X (Rect.unit (s := S) o sz h) : (Rect.unit (s := S) o' sz h').shape.Idx → Elt F e)
      = View.ld X (Rect.unit (s := S) o' sz h') := by
  subst ho; rfl

section

variable (c : Dev nD) (i : grid0.Coords) (arg2 : Memref sig .tc .vmem S1x8x64x256 .bf16) (harg2 : arg2.IsWhole)
  (arg3 : Memref sig .tc .vmem S1x2x256x128 .bf16) (harg3 : arg3.IsWhole)
  (arg4 : Memref sig .tc .vmem S1x2x80x256 .bf16) (harg4 : arg4.IsWhole)
  (arg5 : Memref sig .tc .vmem S1x2x4096x128 .bf16) (harg5 : arg5.IsWhole)
  (arg6 : Memref sig .tc .vmem S1x2x80x4096 .bf16) (harg6 : arg6.IsWhole)
  (arg7 : Memref sig .tc .vmem S1x512x256 .bf16) (harg7 : arg7.IsWhole)
  (f0 : BufTy.Contents (Elt F) arg2.view.ty) (f1 : BufTy.Contents (Elt F) arg3.view.ty)
  (f2 : BufTy.Contents (Elt F) arg4.view.ty) (f3 : BufTy.Contents (Elt F) arg5.view.ty)
  (f4 : BufTy.Contents (Elt F) arg6.view.ty)

/-- One trip of the first head's loop. -/
theorem trip1 (q0 q1 q2 q3 : Vec F S1x1x64x256 .bf16) (k : Fin k0_t1_loop.trips) (hk : k.val < 8)
    (a : FVec F S1x1024 .f32 × FVec F S80x1024 .f32) :
    tripR_k0_t1 (F := F) Variants.none c none i arg2 harg2 arg3 harg3 arg4 harg4 arg5 harg5 arg6 harg6 arg7 harg7
        q0 q1 q2 q3 f3 f4 k a
      = exactStep (View.ld (View.read (Elt F) arg5.view f3) (rKl' 0 k.val (by omega) hk))
          (View.ld (View.read (Elt F) arg6.view f4) (rVl 0 k.val (by omega) hk)) (qcat q0 q1 q2 q3) a := by
  unfold tripR_k0_t1 trip_k0_t1
  exact congrArg₂ (fun k v => exactStep k v (qcat q0 q1 q2 q3) a)
    (ld_off (View.read (Elt F) arg5.view f3) (k0_off1_inb k) _ (k0_off1_eq k))
    (ld_off (View.read (Elt F) arg6.view f4) (k0_off2_inb k) _ (k0_off2_eq k))

/-- One trip of the second head's loop. -/
theorem trip2 (q0 q1 q2 : FVec F S64x256 .bf16) (q3 : Vec F S1x1x64x256 .bf16) (p0 p1 p2 : Vec F S1x1x64x256 .bf16)
    (h0 : q0 = k0_pay22 p0) (h1 : q1 = k0_pay23 p1) (h2 : q2 = k0_pay24 p2)
    (k : Fin k0_t2_loop.trips) (hk : k.val < 8) (a : FVec F S1x1024 .f32 × FVec F S80x1024 .f32) :
    tripR_k0_t2 (F := F) Variants.none c none i arg2 harg2 arg3 harg3 arg4 harg4 arg5 harg5 arg6 harg6 arg7 harg7
        q0 q1 q2 q3 f3 f4 k a
      = exactStep (View.ld (View.read (Elt F) arg5.view f3) (rKl' 1 k.val (by omega) hk))
          (View.ld (View.read (Elt F) arg6.view f4) (rVl 1 k.val (by omega) hk)) (qcat p0 p1 p2 q3) a := by
  subst h0 h1 h2
  unfold tripR_k0_t2 trip_k0_t2
  exact congrArg₂ (fun k v => exactStep k v (qcat p0 p1 p2 q3) a)
    (ld_off (View.read (Elt F) arg5.view f3) (k0_off3_inb k) _ (k0_off3_eq k))
    (ld_off (View.read (Elt F) arg6.view f4) (k0_off4_inb k) _ (k0_off4_eq k))

theorem trips1 : k0_t1_loop.trips = 8 := by decide +kernel
theorem trips2 : k0_t2_loop.trips = 8 := by decide +kernel

local notation "X0" => View.read (Elt F) arg2.view f0
local notation "X1" => View.read (Elt F) arg3.view f1
local notation "X2" => View.read (Elt F) arg4.view f2
local notation "X3" => View.read (Elt F) arg5.view f3
local notation "X4" => View.read (Elt F) arg6.view f4

/-- The first head's loop after `n` trips. -/
theorem loop1 (n : ℕ) (hn : n ≤ 8) :
    st_k0_t1 (F := F) Variants.none c none i arg2 harg2 arg3 harg3 arg4 harg4 arg5 harg5 arg6 harg6 arg7 harg7
        (View.ld X0 (rQ 0 (by omega))) (View.ld X0 (rQ 1 (by omega))) (View.ld X0 (rQ 2 (by omega)))
        (View.ld X0 (rQ 3 (by omega))) f3 f4
        (exactStart (View.ld X1 (rKc 0 (by omega))) (View.ld X2 (rVc 0 (by omega))) (queries X0 0 (by omega))) n
      = exact X0 X1 X2 X3 X4 0 (by omega) n hn := by
  induction n with
  | zero => rw [exact, st_k0_t1]
  | succ n ih =>
    have hlt : n < k0_t1_loop.trips := by rw [trips1]; omega
    refine (st_k0_t1_succ (F := F) Variants.none c none i arg2 harg2 arg3 harg3 arg4 harg4 arg5 harg5 arg6 harg6 arg7
      harg7 _ _ _ _ f3 f4 _ ⟨n, hlt⟩).trans ?_
    rw [trip1 c i arg2 harg2 arg3 harg3 arg4 harg4 arg5 harg5 arg6 harg6 arg7 harg7 f3 f4 _ _ _ _ ⟨n, hlt⟩ (by show n < 8; omega),
      ih (by omega), exact]
    rfl

/-- The second head's loop after `n` trips. -/
theorem loop2 (q0 q1 q2 : FVec F S64x256 .bf16) (h0 : q0 = k0_pay22 (View.ld X0 (rQ 4 (by omega))))
    (h1 : q1 = k0_pay23 (View.ld X0 (rQ 5 (by omega)))) (h2 : q2 = k0_pay24 (View.ld X0 (rQ 6 (by omega))))
    (n : ℕ) (hn : n ≤ 8) :
    st_k0_t2 (F := F) Variants.none c none i arg2 harg2 arg3 harg3 arg4 harg4 arg5 harg5 arg6 harg6 arg7 harg7
        q0 q1 q2 (View.ld X0 (rQ 7 (by omega))) f3 f4
        (exactStart (View.ld X1 (rKc 1 (by omega))) (View.ld X2 (rVc 1 (by omega))) (queries X0 1 (by omega))) n
      = exact X0 X1 X2 X3 X4 1 (by omega) n hn := by
  induction n with
  | zero => rw [exact, st_k0_t2]
  | succ n ih =>
    have hlt : n < k0_t2_loop.trips := by rw [trips2]; omega
    refine (st_k0_t2_succ (F := F) Variants.none c none i arg2 harg2 arg3 harg3 arg4 harg4 arg5 harg5 arg6 harg6 arg7
      harg7 _ _ _ _ f3 f4 _ ⟨n, hlt⟩).trans ?_
    rw [trip2 c i arg2 harg2 arg3 harg3 arg4 harg4 arg5 harg5 arg6 harg6 arg7 harg7 f3 f4 _ _ _ _ _ _ _ h0 h1 h2
      ⟨n, hlt⟩ (by show n < 8; omega), ih (by omega), exact]
    rfl

/-- The first head's loop, run to its end. -/
theorem loop1_end :
    st_k0_t1 (F := F) Variants.none c none i arg2 harg2 arg3 harg3 arg4 harg4 arg5 harg5 arg6 harg6 arg7 harg7
        (View.ld X0 (rQ 0 (by omega))) (View.ld X0 (rQ 1 (by omega))) (View.ld X0 (rQ 2 (by omega)))
        (View.ld X0 (rQ 3 (by omega))) f3 f4
        (exactStart (View.ld X1 (rKc 0 (by omega))) (View.ld X2 (rVc 0 (by omega))) (queries X0 0 (by omega)))
        (Scf.trips k0_t1_loop.lb k0_t1_loop.ub k0_t1_loop.st)
      = exact X0 X1 X2 X3 X4 0 (by omega) 8 le_rfl := by
  rw [show Scf.trips k0_t1_loop.lb k0_t1_loop.ub k0_t1_loop.st = 8 from trips1]
  exact loop1 c i arg2 harg2 arg3 harg3 arg4 harg4 arg5 harg5 arg6 harg6 arg7 harg7 f0 f1 f2 f3 f4 8 le_rfl

/-- The second head's loop, run to its end. -/
theorem loop2_end :
    st_k0_t2 (F := F) Variants.none c none i arg2 harg2 arg3 harg3 arg4 harg4 arg5 harg5 arg6 harg6 arg7 harg7
        (k0_pay22 (View.ld X0 (rQ 4 (by omega)))) (k0_pay23 (View.ld X0 (rQ 5 (by omega))))
        (k0_pay24 (View.ld X0 (rQ 6 (by omega)))) (View.ld X0 (rQ 7 (by omega))) f3 f4
        (exactStart (View.ld X1 (rKc 1 (by omega))) (View.ld X2 (rVc 1 (by omega))) (queries X0 1 (by omega)))
        (Scf.trips k0_t2_loop.lb k0_t2_loop.ub k0_t2_loop.st)
      = exact X0 X1 X2 X3 X4 1 (by omega) 8 le_rfl := by
  rw [show Scf.trips k0_t2_loop.lb k0_t2_loop.ub k0_t2_loop.st = 8 from trips2]
  exact loop2 c i arg2 harg2 arg3 harg3 arg4 harg4 arg5 harg5 arg6 harg6 arg7 harg7 f0 f1 f2 f3 f4 _ _ _ rfl rfl rfl 8 le_rfl

end

end Cert.Attn

end
-- ==== Proof.Body.lean ====
/- One grid point's body, run over any float values: it leaves in its block of results what `Attn.outBlk` computes from
   the blocks it reads. -/
module

public import proofs.«01_k».proof.Proof.Trips
public import proofs.«01_k».proof.Proof.Gen.KernelIdeal.Frame
public import proofs.«01_k».proof.Proof.Gen.KernelIdeal.Loops

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The eight heads' rows cover the block of results. -/
theorem cover_pieces (p0 p1 p2 p3 p4 p5 p6 p7 : Vec F S1x64x256 .bf16) (y : S1x512x256.Idx) :
    ∃ pc ∈ ([⟨rO 7 (by omega), p7⟩, ⟨rO 6 (by omega), p6⟩, ⟨rO 5 (by omega), p5⟩, ⟨rO 4 (by omega), p4⟩,
      ⟨rO 3 (by omega), p3⟩, ⟨rO 2 (by omega), p2⟩, ⟨rO 1 (by omega), p1⟩, ⟨rO 0 (by omega), p0⟩] :
        List (View.Piece (Elt F) S1x512x256 .bf16)), y ∈ pc.1.set :=
  View.cover_of_tiled [⟨rO 7 (by omega), p7⟩, ⟨rO 6 (by omega), p6⟩, ⟨rO 5 (by omega), p5⟩, ⟨rO 4 (by omega), p4⟩,
      ⟨rO 3 (by omega), p3⟩, ⟨rO 2 (by omega), p2⟩, ⟨rO 1 (by omega), p1⟩, ⟨rO 0 (by omega), p0⟩]
    S1x64x256.size (by rfl) y

/-- The eight heads' results stored last are what the block holds. -/
theorem read_over {sp : Space} (v : View sig .tc sp S1x512x256 .bf16) (f : v.ty.Contents (Elt F))
    (L : List (View.Piece (Elt F) S1x512x256 .bf16)) (p0 p1 p2 p3 p4 p5 p6 p7 : Vec F S1x64x256 .bf16)
    (a0 a1 : FVec F S80x1024 .f32)
    (h0 : p0 = headOut 0 (by omega) (finish a0)) (h1 : p1 = headOut 1 (by omega) (finish a0))
    (h2 : p2 = headOut 2 (by omega) (finish a0)) (h3 : p3 = headOut 3 (by omega) (finish a0))
    (h4 : p4 = headOut 0 (by omega) (finish a1)) (h5 : p5 = headOut 1 (by omega) (finish a1))
    (h6 : p6 = headOut 2 (by omega) (finish a1)) (h7 : p7 = headOut 3 (by omega) (finish a1)) :
    v.read (Elt F) (v.writes (Elt F) f (⟨rO 7 (by omega), p7⟩ :: ⟨rO 6 (by omega), p6⟩ :: ⟨rO 5 (by omega), p5⟩
      :: ⟨rO 4 (by omega), p4⟩ :: ⟨rO 3 (by omega), p3⟩ :: ⟨rO 2 (by omega), p2⟩ :: ⟨rO 1 (by omega), p1⟩
      :: ⟨rO 0 (by omega), p0⟩ :: L)) = View.canon (pieces a0 a1) := by
  subst h0 h1 h2 h3 h4 h5 h6 h7
  exact View.read_writes_eq_canon v (v.writes (Elt F) f L) (pieces a0 a1) (cover_pieces _ _ _ _ _ _ _ _)

set_option maxHeartbeats 40000000 in
theorem sound_kernel (c : Dev nD) (E : Set ℕ) (i : grid0.Coords) (arg2 : Memref sig .tc .vmem S1x8x64x256 .bf16) (harg2 : arg2.IsWhole) (arg3 : Memref sig .tc .vmem S1x2x256x128 .bf16) (harg3 : arg3.IsWhole) (arg4 : Memref sig .tc .vmem S1x2x80x256 .bf16) (harg4 : arg4.IsWhole) (arg5 : Memref sig .tc .vmem S1x2x4096x128 .bf16) (harg5 : arg5.IsWhole) (arg6 : Memref sig .tc .vmem S1x2x80x4096 .bf16) (harg6 : arg6.IsWhole) (arg7 : Memref sig .tc .vmem S1x512x256 .bf16) (harg7 : arg7.IsWhole)
    (x0 : Vec F S1x8x64x256 .bf16) (x1 : Vec F S1x2x256x128 .bf16) (x2 : Vec F S1x2x80x256 .bf16) (x3 : Vec F S1x2x4096x128 .bf16) (x4 : Vec F S1x2x80x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x1 x2 x3 x4)) -∗ K ⟨⟩))
      ⊢ wp frame (wpE (defs₀ (F := F)) Variants.none c none) E (cc0_attn_latent i arg2 harg2 arg3 harg3 arg4 harg4 arg5 harg5 arg6 harg6 arg7 harg7) K := by
  simp only [cc0_attn_latent_eq_skeleton]; unfold cc0_attn_latent_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  beta_reduce
  split
  · rename_i hC
    have hC' : over (View.read (Elt F) arg2.view f0) (View.read (Elt F) arg3.view f1) (View.read (Elt F) arg4.view f2)
        (View.read (Elt F) arg5.view f3) (View.read (Elt F) arg6.view f4) = 1#1 := by
      simp only [over, largest, fast, step, start]; exact hC
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    rw [outBlk, if_pos hC']
    refine read_over arg7.view _ _ _ _ _ _ _ _ _ _ _ _ ?_ ?_ ?_ ?_ ?_ ?_ ?_ ?_
    · rw [← loop1_end c i arg2 harg2 arg3 harg3 arg4 harg4 arg5 harg5 arg6 harg6 arg7 harg7 f0 f1 f2 f3 f4]; rfl
    · rw [← loop1_end c i arg2 harg2 arg3 harg3 arg4 harg4 arg5 harg5 arg6 harg6 arg7 harg7 f0 f1 f2 f3 f4]; rfl
    · rw [← loop1_end c i arg2 harg2 arg3 harg3 arg4 harg4 arg5 harg5 arg6 harg6 arg7 harg7 f0 f1 f2 f3 f4]; rfl
    · rw [← loop1_end c i arg2 harg2 arg3 harg3 arg4 harg4 arg5 harg5 arg6 harg6 arg7 harg7 f0 f1 f2 f3 f4]; rfl
    · rw [← loop2_end c i arg2 harg2 arg3 harg3 arg4 harg4 arg5 harg5 arg6 harg6 arg7 harg7 f0 f1 f2 f3 f4]; rfl
    · rw [← loop2_end c i arg2 harg2 arg3 harg3 arg4 harg4 arg5 harg5 arg6 harg6 arg7 harg7 f0 f1 f2 f3 f4]; rfl
    · rw [← loop2_end c i arg2 harg2 arg3 harg3 arg4 harg4 arg5 harg5 arg6 harg6 arg7 harg7 f0 f1 f2 f3 f4]; rfl
    · rw [← loop2_end c i arg2 harg2 arg3 harg3 arg4 harg4 arg5 harg5 arg6 harg6 arg7 harg7 f0 f1 f2 f3 f4]; rfl
  · rename_i hC
    have hC' : ¬ over (View.read (Elt F) arg2.view f0) (View.read (Elt F) arg3.view f1) (View.read (Elt F) arg4.view f2)
        (View.read (Elt F) arg5.view f3) (View.read (Elt F) arg6.view f4) = 1#1 := by
      simp only [over, largest, fast, step, start]; exact hC
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover_pieces _ _ _ _ _ _ _ _)).trans ?_
    rw [outBlk, if_neg hC']
    simp only [fast, step, start, pieces]
    rfl

end Cert.Attn

end
-- ==== Proof.Launch.lean ====
/- The launch of the attention call, over any float values: from one point's body to the arrays at the end, the arguments
   unchanged and every semaphore counter at zero. -/
module

public import proofs.«01_k».proof.Proof.Body
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch keeps per core: the arrays as the region finds them, each block of arguments unchanged by a point, and
    the point's block of results as `outBlk` gives it. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The arrays, as the region finds them. -/
theorem data_A (c : Dev nD) (w : Fin cfg0.W) : (data m 0 c).A w = V m c (Pipeline.arrRef spec0 w) := by
  dsimp only [data]

theorem left_0 (c : Dev nD) (t : Fin cfg0.N) : (data m 0 c).after 0 t = iblk m c 0 t := by dsimp only [data]
theorem left_1 (c : Dev nD) (t : Fin cfg0.N) : (data m 0 c).after 1 t = iblk m c 1 t := by dsimp only [data]
theorem left_2 (c : Dev nD) (t : Fin cfg0.N) : (data m 0 c).after 2 t = iblk m c 2 t := by dsimp only [data]
theorem left_3 (c : Dev nD) (t : Fin cfg0.N) : (data m 0 c).after 3 t = iblk m c 3 t := by dsimp only [data]
theorem left_4 (c : Dev nD) (t : Fin cfg0.N) : (data m 0 c).after 4 t = iblk m c 4 t := by dsimp only [data]
theorem left_5 (c : Dev nD) (t : Fin cfg0.N) : (data m 0 c).after 5 t = outBlk (iblk m c 0 t) (iblk m c 1 t) (iblk m c 2 t) (iblk m c 3 t) (iblk m c 4 t) := by dsimp only [data]

theorem held_0 (c : Dev nD) (t : Fin cfg0.N) (d) : (data m 0 c).before 0 t d = iblk m c 0 t :=
  before0_0_of m (data m 0 c) (data_A m c 0) (left_0 m c) t d
theorem held_1 (c : Dev nD) (t : Fin cfg0.N) (d) : (data m 0 c).before 1 t d = iblk m c 1 t :=
  before0_1_of m (data m 0 c) (data_A m c 1) (left_1 m c) t d
theorem held_2 (c : Dev nD) (t : Fin cfg0.N) (d) : (data m 0 c).before 2 t d = iblk m c 2 t :=
  before0_2_of m (data m 0 c) (data_A m c 2) (left_2 m c) t d
theorem held_3 (c : Dev nD) (t : Fin cfg0.N) (d) : (data m 0 c).before 3 t d = iblk m c 3 t :=
  before0_3_of m (data m 0 c) (data_A m c 3) (left_3 m c) t d
theorem held_4 (c : Dev nD) (t : Fin cfg0.N) (d) : (data m 0 c).before 4 t d = iblk m c 4 t :=
  before0_4_of m (data m 0 c) (data_A m c 4) (left_4 m c) t d

/-- What a point starts from -/
def pointPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- and what it leaves. -/
def pointPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t))

/-- A point's body: `sound_kernel` at the point's blocks. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [held_0, held_1, held_2, held_3, held_4]
  rw [show (data m 0 c).Φ t.succ = (data m 0 c).Φ t.castSucc from rfl,
    show (data m 0 c).owesAt () t.succ = (data m 0 c).owesAt () t.castSucc from rfl,
    left_0, left_1, left_2, left_3, left_4, left_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table's row for a point is the body with that point's buffers. -/
theorem point_body (t : Fin cfg0.N) :
    defs₀ (F := F) .tc cfg0.body (cfg0.bodyArgs t (cfg0.slots t)) = bodyAt0 t := by
  unfold defs₀; rw [Defs.onTc_tc]

/-- Every point meets what the launch asks of it. -/
theorem obligation (c : Dev nD) : BodyObligation (data (F := F) m 0 c) (defs₀ (F := F)) Variants.none () Set.univ := fun t => by
  rw [bigSep_W0, bigSep_W0, point_body]
  exact triple_restated (point_run m c t) rfl .rfl fun _ => .rfl

set_option backward.isDefEq.respectTransparency.types false in
set_option maxHeartbeats 800000 in
theorem launch_run : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The arguments end as they began, and every counter is at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (data m) (data_A m) ((θ_run defs _ _).mono (fun _ h => h.1) (launch_run m ρ)))
    ((θ_run defs _ _).mono (fun _ h => h.2) (launch_run m ρ))

end Cert.Attn

end
-- ==== Proof.Frames.lean ====
/- The frames of the three programs. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_qk
public import proofs.«01_k».proof.Proof.Launch
public import Idealize.ShloMosaic.Adequacy
public import Idealize.ShloMosaic.Init

@[expose] public section

set_option maxRecDepth 100000

noncomputable section

namespace Cert.Proof

open Idealize.ShloMosaic Idealize.SL.Sem Cert.Kernel

/-- The two prints of the kernel have one body table. -/
theorem same_table : Cert.Kernel.defs₀ (F := Bits) = Cert.KernelIdeal.defs₀ := by
  unfold Cert.Kernel.defs₀ Cert.KernelIdeal.defs₀
  refine congrArg Defs.onTc ?_
  funext l a
  obtain ⟨l, hl⟩ := l
  obtain rfl : l = 0 := by omega
  obtain ⟨t, s⟩ := a
  rfl

/-- The kernel at the machine's own numbers. -/
theorem frame_kernel : Cert.quiescent_Kernel := by
  intro m ρ _
  have h := Attn.frames (F := Bits) m ρ
  unfold Cert.KernelIdeal.defs at h
  rw [← same_table] at h
  exact h

/-- The kernel at the ideal numbers. -/
theorem frame_ideal : Cert.quiescent_KernelIdeal := fun m ρ _ => Attn.frames (F := Ideal) m ρ

/-- The same under the precondition. -/
theorem frame_ideal_pre : Cert.quiescent_KernelIdeal_pre_finite_qk := fun m ρ _ => Attn.frames (F := Ideal) m ρ

/-- The reference leaves its arguments as they were; it has no semaphores. -/
theorem frame_reference : Cert.quiescent_ReferenceIdeal := fun m ρ _ =>
  (θ_run Cert.ReferenceIdeal.defs _ _).mono (fun r h => And.intro (fun c => (h c).2)
    (Idealize.ShloMosaic.sem_eq_zero_of_no_sems (by decide) r.2)) (Cert.ReferenceIdeal.Value.run (F := Ideal) m ρ)

/-- The same under the precondition. -/
theorem frame_reference_pre : Cert.quiescent_ReferenceIdeal_pre_finite_qk := fun m ρ _ =>
  frame_reference m ρ trivial

end Cert.Proof

end
-- ==== Proof.Sums.lean ====
/- Facts about extended reals that the attention's sums need: values that are real, maxima over a column, powers of two,
   the sum of values weighted by powers of two of scores less a shift, and the sum over the sum of the weights. -/
module

public import Idealize.ShloMosaic.PureOps.Ideal

@[expose] public section

noncomputable section

namespace Cert.Attn

open Idealize.ShloMosaic
open scoped BigOperators

/-! ## Values that are real -/

/-- `x` is a real number. -/
def IsReal (x : EReal) : Prop := ∃ r : ℝ, x = (r : EReal)

/-- `x` is a positive real number. -/
def IsPos (x : EReal) : Prop := ∃ r : ℝ, 0 < r ∧ x = (r : EReal)

theorem IsReal.max {x y : EReal} (hx : IsReal x) (hy : IsReal y) : IsReal (max x y) := by
  rcases max_choice x y with h | h <;> rw [h] <;> assumption

theorem IsPos.max {x y : EReal} (hx : IsPos x) (hy : IsPos y) : IsPos (max x y) := by
  rcases max_choice x y with h | h <;> rw [h] <;> assumption

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsPos.log {x : EReal} (hx : IsPos x) : IsReal (Ideal.log x) := by
  obtain ⟨a, ha, rfl⟩ := hx
  exact ⟨Real.log a, by rw [Ideal.log_coe, if_neg (not_le.mpr ha)]⟩

/-- A maximum over finitely many values with a property that maxima keep, from `⊥`, over at least one value. -/
theorem fold_max_of {P : EReal → Prop} (hP : ∀ x y, P x → P y → P (max x y)) {n : ℕ} (hn : 0 < n) (f : Fin n → EReal)
    (h : ∀ k, P (f k)) : P ((Finset.univ : Finset (Fin n)).fold max ⊥ f) := by
  have key : ∀ s : Finset (Fin n), s.fold max ⊥ f = ⊥ ∧ s = ∅ ∨ P (s.fold max ⊥ f) := by
    intro s
    induction s using Finset.induction_on with
    | empty => exact .inl ⟨rfl, rfl⟩
    | insert a s ha ih =>
      right
      rw [Finset.fold_insert ha]
      rcases ih with ⟨e, -⟩ | e
      · rw [e, max_eq_left bot_le]; exact h a
      · exact hP _ _ (h a) e
  rcases key Finset.univ with ⟨-, e⟩ | e
  · exact absurd (Finset.mem_univ (⟨0, hn⟩ : Fin n)) (by rw [e]; exact Finset.notMem_empty _)
  · exact e

theorem fold_max_real {n : ℕ} (hn : 0 < n) (f : Fin n → EReal) (h : ∀ k, IsReal (f k)) :
    IsReal ((Finset.univ : Finset (Fin n)).fold max ⊥ f) := fold_max_of (fun _ _ => IsReal.max) hn f h

theorem fold_max_pos {n : ℕ} (hn : 0 < n) (f : Fin n → EReal) (h : ∀ k, IsPos (f k)) :
    IsPos ((Finset.univ : Finset (Fin n)).fold max ⊥ f) := fold_max_of (fun _ _ => IsPos.max) hn f h

/-- Two to a difference of reals. -/
theorem exp2_sub (a b : ℝ) : Ideal.exp2 ((a : EReal) - (b : EReal)) = (((2 : ℝ) ^ (a - b) : ℝ) : EReal) := by
  rw [← EReal.coe_sub, Ideal.exp2_coe]; rfl

theorem two_pow_pos (x : ℝ) : (0 : ℝ) < (2 : ℝ) ^ x := Real.rpow_pos_of_pos (by norm_num) x

/-! ## Sums times a real factor -/

theorem sum_mul_coe (n : ℕ) (f : ℕ → EReal) (c : ℝ) (hc : 0 ≤ c) :
    (∑ l ∈ Finset.range n, f l) * (c : EReal) = ∑ l ∈ Finset.range n, f l * (c : EReal) := by
  induction n with
  | zero => simp
  | succ n ih =>
    rw [Finset.sum_range_succ, Finset.sum_range_succ, ← ih,
      EReal.right_distrib_of_nonneg_of_ne_top (by exact_mod_cast hc) (EReal.coe_ne_top c)]

/-- A sum of reals, as an extended real. -/
theorem coe_sum (n : ℕ) (f : ℕ → ℝ) :
    ((∑ l ∈ Finset.range n, f l : ℝ) : EReal) = ∑ l ∈ Finset.range n, ((f l : ℝ) : EReal) := by
  induction n with
  | zero => simp
  | succ n ih => rw [Finset.sum_range_succ, Finset.sum_range_succ, ← ih, EReal.coe_add]

/-! ## The weighted sum at a shift -/

/-- The first `n` values weighted by two to their scores less the shift `w`. -/
def total (v : ℕ → EReal) (s : ℕ → ℝ) (n : ℕ) (w : ℝ) : EReal :=
  ∑ l ∈ Finset.range n, v l * (((2 : ℝ) ^ (s l - w) : ℝ) : EReal)

/-- A change of shift is a factor. -/
theorem total_shift (v : ℕ → EReal) (s : ℕ → ℝ) (n : ℕ) (w w' : ℝ) :
    total v s n w * (((2 : ℝ) ^ (w - w') : ℝ) : EReal) = total v s n w' := by
  unfold total
  rw [sum_mul_coe _ _ _ (two_pow_pos _).le]
  refine Finset.sum_congr rfl fun l _ => ?_
  rw [mul_assoc, ← EReal.coe_mul, ← Real.rpow_add (by norm_num)]
  rw [show s l - w + (w - w') = s l - w' by ring]

/-- The sum over `n + m` values is the first `n` values' and the other `m` values'. -/
theorem total_add (v : ℕ → EReal) (s : ℕ → ℝ) (n m : ℕ) (w : ℝ) :
    total v s (n + m) w = total v s n w
      + ∑ j : Fin m, v (n + j) * (((2 : ℝ) ^ (s (n + j) - w) : ℝ) : EReal) := by
  unfold total
  rw [Finset.sum_range_add, Finset.sum_range fun x => v (n + x) * (((2 : ℝ) ^ (s (n + x) - w) : ℝ) : EReal)]

theorem total_fin (v : ℕ → EReal) (s : ℕ → ℝ) (n : ℕ) (w : ℝ) :
    total v s n w = ∑ j : Fin n, v j * (((2 : ℝ) ^ (s j - w) : ℝ) : EReal) := Finset.sum_range _

/-- The sum of the first `n` powers of two. -/
def denom (s : ℕ → ℝ) (n : ℕ) : ℝ := ∑ l ∈ Finset.range n, (2 : ℝ) ^ (s l)

theorem denom_pos (s : ℕ → ℝ) {n : ℕ} (hn : 0 < n) : 0 < denom s n :=
  Finset.sum_pos (fun l _ => two_pow_pos _) ⟨0, Finset.mem_range.mpr hn⟩

/-- The values weighted by their share of the powers of two. -/
def average (v : ℕ → EReal) (s : ℕ → ℝ) (n : ℕ) : EReal :=
  ∑ l ∈ Finset.range n, v l * (((2 : ℝ) ^ (s l) / denom s n : ℝ) : EReal)

/-- The sum of the weights alone. -/
theorem total_one (v : ℕ → EReal) (hv : ∀ l, v l = 1) (s : ℕ → ℝ) (n : ℕ) (w : ℝ) :
    total v s n w = ((denom s n * (2 : ℝ) ^ (-w) : ℝ) : EReal) := by
  unfold total denom
  rw [Finset.sum_mul, coe_sum]
  refine Finset.sum_congr rfl fun l _ => ?_
  rw [hv, one_mul, ← Real.rpow_add (by norm_num), sub_eq_add_neg]

/-- The weighted sum over the sum of the weights does not depend on the shift. -/
theorem total_over (v o : ℕ → EReal) (ho : ∀ l, o l = 1) (s : ℕ → ℝ) {n : ℕ} (hn : 0 < n) (w : ℝ) :
    total v s n w * Ideal.div 1 (total o s n w) = average v s n := by
  have hd := denom_pos s hn
  have hp := mul_pos hd (two_pow_pos (-w))
  rw [total_one o ho]
  have e : Ideal.div 1 ((denom s n * (2 : ℝ) ^ (-w) : ℝ) : EReal) = (((denom s n * (2 : ℝ) ^ (-w))⁻¹ : ℝ) : EReal) := by
    unfold Ideal.div
    rw [if_neg (by exact_mod_cast hp.ne'), one_mul, ← EReal.coe_inv]
  rw [e]
  unfold total average
  rw [sum_mul_coe _ _ _ (inv_pos.mpr hp).le]
  refine Finset.sum_congr rfl fun l _ => ?_
  rw [mul_assoc, ← EReal.coe_mul]
  congr 2
  rw [sub_eq_add_neg, Real.rpow_add (by norm_num)]
  have h2 := (two_pow_pos (-w)).ne'
  field_simp

/-- The softmax of real scores, taken at any real shift, over the values. -/
theorem average_of_softmax (v : ℕ → EReal) (s t : ℕ → ℝ) (m : ℝ) {n : ℕ} (hn : 0 < n)
    (hst : ∀ l, s l * Real.log 2 = t l) :
    ∑ l ∈ Finset.range n, v l * Ideal.div (Ideal.exp ((t l : EReal) - (m : EReal)))
      (∑ k ∈ Finset.range n, Ideal.exp ((t k : EReal) - (m : EReal))) = average v s n := by
  have he : ∀ l, Ideal.exp ((t l : EReal) - (m : EReal)) = (((2 : ℝ) ^ (s l) * Real.exp (-m) : ℝ) : EReal) := by
    intro l
    rw [← EReal.coe_sub, Ideal.exp_coe, ← hst l, sub_eq_add_neg, Real.exp_add,
      Real.rpow_def_of_pos (by norm_num : (0 : ℝ) < 2), mul_comm (s l)]
  have hs : ∑ k ∈ Finset.range n, Ideal.exp ((t k : EReal) - (m : EReal)) = ((denom s n * Real.exp (-m) : ℝ) : EReal) := by
    unfold denom
    rw [Finset.sum_mul, coe_sum]
    exact Finset.sum_congr rfl fun k _ => he k
  have hd := denom_pos s hn
  have hp := mul_pos hd (Real.exp_pos (-m))
  unfold average
  refine Finset.sum_congr rfl fun l _ => ?_
  rw [hs, he]
  unfold Ideal.div
  rw [if_neg (by exact_mod_cast hp.ne'), ← EReal.coe_inv, ← EReal.coe_mul]
  congr 2
  have h2 := (Real.exp_pos (-m)).ne'
  field_simp

end Cert.Attn

end
-- ==== Proof.Columns.lean ====
/- The attention body's steps read at an index, with the floats as extended reals and the queries and keys real: a score
   is a real number, a column's maximum is real, a chunk's sum is a sum of values times powers of two. -/
module

public import proofs.«01_k».proof.Proof.Steps
public import proofs.«01_k».proof.Proof.Sums
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.Attn

open Idealize.ShloMosaic Idealize.ShloMosaic.TcCoe Idealize.SL.Sem Idealize.ShloMosaic.ValueIdx
open Cert.KernelIdeal Cert.KernelIdeal.Gen
open scoped BigOperators

/-! ## Words and layouts -/

theorem ofBits_neg_inf : Ideal.ofBits .f32 0xFF800000#32 = ⊥ := by simp [Ideal.ofBits, Ideal.ieee]

theorem ofBits_log2e : IsReal (Ideal.ofBits .f32 0x3FB8AA3B#32) := by
  simp [Ideal.ofBits, Ideal.ieee, -EReal.coe_mul, IsReal]

/-- A block with two unit axes in front, cast to its matrix. -/
theorem cast_11ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  congrArg x (reshapeEquiv_ix2_11ab _ i j)

/-- The score of key row `l` against query column `c`. -/
def score (K Q : ℕ → ℕ → ℝ) (c l : ℕ) : ℝ := ∑ d ∈ Finset.range 64, K l d * Q d c

/-- A real product of a row and a column. -/
theorem score_sum (K Q : ℕ → ℕ → ℝ) (c l : ℕ) (f g : Fin 64 → EReal) (hf : ∀ d : Fin 64, f d = (K l d : EReal))
    (hg : ∀ d : Fin 64, g d = (Q d c : EReal)) : ∑ d : Fin 64, f d * g d = (score K Q c l : EReal) := by
  unfold score
  rw [coe_sum, Finset.sum_range fun d => ((K l d * Q d c : ℝ) : EReal)]
  exact Finset.sum_congr rfl fun d _ => by rw [hf, hg, EReal.coe_mul]

section Steps

variable {K Q : ℕ → ℕ → ℝ} {V : ℕ → ℕ → EReal} {q : FVec Ideal S64x1024 .bf16}

/-! ## Scores -/

theorem ctxScores_apply (k : Vec Ideal S1x1x256x64 .bf16)
    (hk : ∀ (l : Fin 256) (d : Fin 64), k (ix4 (0 : Fin 1) (0 : Fin 1) l d) = (K l d : EReal))
    (hq : ∀ (d : Fin 64) (c : Fin 1024), q (ix2 d c) = (Q d c : EReal)) (l : Fin 256) (c : Fin 1024) :
    ctxScores k q (ix2 l c) = (score K Q c l : EReal) := by
  refine (Ideal.matmul_plain_apply none (shapeCast S256x64 k shapeCasts_S1x1x256x64_S256x64) q _ l c).trans ?_
  rw [constant_apply, Ideal.ofBits_zero_f32, zero_add]
  exact score_sum K Q c l _ _ (fun d => (cast_11ab k _ l d).trans (hk l d)) (fun d => hq d c)

theorem plainScores_apply (k : Vec Ideal S1x1x512x64 .bf16) (b : ℕ)
    (hk : ∀ (l : Fin 512) (d : Fin 64), k (ix4 (0 : Fin 1) (0 : Fin 1) l d) = (K (b + l) d : EReal))
    (hq : ∀ (d : Fin 64) (c : Fin 1024), q (ix2 d c) = (Q d c : EReal)) (l : Fin 512) (c : Fin 1024) :
    plainScores k q (ix2 l c) = (score K Q c (b + l) : EReal) := by
  refine (Ideal.matmul_plain_apply none (shapeCast S512x64 k shapeCasts_S1x1x512x64_S512x64) q _ l c).trans ?_
  rw [constant_apply, Ideal.ofBits_zero_f32, zero_add]
  exact score_sum K Q c (b + l) _ _ (fun d => (cast_11ab k _ l d).trans (hk l d)) (fun d => hq d c)

/-- The augmented queries: the queries, the negated shift, zeros. -/
theorem augmented_apply (w : FVec Ideal S1x1024 .f32) (d : Fin 128) (c : Fin 1024) :
    augmented q w (ix2 d c) = if h : d.val < 64 then q (ix2 (⟨d.val, h⟩ : Fin 64) c)
      else if d.val = 64 then 0 - w (ix2 (0 : Fin 1) c) else 0 := by
  unfold augmented
  split
  · rename_i h
    exact concatenate_apply_piece 0 _ _ (ix2 d c) 0 (by simp) S64x1024 q rfl rfl 0 rfl (ix2 (⟨d.val, h⟩ : Fin 64) c)
      (fun b hb => by match b with | ⟨0, _⟩ => exact absurd rfl hb | ⟨1, _⟩ => rfl) (Nat.zero_add _)
  · rename_i h
    by_cases h2 : d.val < 80
    · rw [concatenate_apply_piece 0 _ _ (ix2 d c) 1 (by simp) S16x1024 _ rfl rfl 64 rfl
        (ix2 (⟨d.val - 64, by omega⟩ : Fin 16) c)
        (fun b hb => by match b with | ⟨0, _⟩ => exact absurd rfl hb | ⟨1, _⟩ => rfl)
        (show 64 + (d.val - 64) = d.val by omega)]
      rw [truncf_apply, select_apply]
      have hi : cmpi .eq (iota .tc S16x1024 32 [0] iota_S16x1024_d0_w32) (broadcast S16x1024 0#32)
          (ix2 (⟨d.val - 64, by omega⟩ : Fin 16) c) = if d.val = 64 then 1#1 else 0#1 := by
        show Scalar.cmpi .eq (BitVec.ofNat 32 (0 * 16 + (d.val - 64))) 0#32 = _
        have hd : d.val = 64 ∨ d.val = 65 ∨ d.val = 66 ∨ d.val = 67 ∨ d.val = 68 ∨ d.val = 69 ∨ d.val = 70 ∨ d.val = 71 ∨
          d.val = 72 ∨ d.val = 73 ∨ d.val = 74 ∨ d.val = 75 ∨ d.val = 76 ∨ d.val = 77 ∨ d.val = 78 ∨ d.val = 79 := by omega
        rcases hd with e | e | e | e | e | e | e | e | e | e | e | e | e | e | e | e <;> rw [e] <;> rfl
      rw [hi]
      by_cases h3 : d.val = 64
      · rw [if_pos h3, if_pos h3, select_one]
        refine (broadcastTo_1b_ab_apply _ _ _ c).trans ?_
        rw [shapeCast_self, subf_apply, broadcast_apply]
        exact congrArg (· - w (ix2 (0 : Fin 1) c)) Ideal.ofBits_zero_f32
      · rw [if_neg h3, if_neg h3, select_zero]
        exact Ideal.ofBits_zero_f32
    · rw [concatenate_apply_piece 0 _ _ (ix2 d c) 2 (by simp) S48x1024 _ rfl rfl 80 rfl
        (ix2 (⟨d.val - 80, by omega⟩ : Fin 48) c)
        (fun b hb => by match b with | ⟨0, _⟩ => exact absurd rfl hb | ⟨1, _⟩ => rfl)
        (show 80 + (d.val - 80) = d.val by omega), if_neg (by omega)]
      exact Ideal.ofBits_zero_bf16

theorem shiftedScores_apply (k : Vec Ideal S1x1x512x128 .bf16) (b : ℕ)
    (hk : ∀ (l : Fin 512) (d : Fin 128), d.val < 64 → k (ix4 (0 : Fin 1) (0 : Fin 1) l d) = (K (b + l) d : EReal))
    (hk1 : ∀ (l : Fin 512) (d : Fin 128), d.val = 64 → k (ix4 (0 : Fin 1) (0 : Fin 1) l d) = 1)
    (hq : ∀ (d : Fin 64) (c : Fin 1024), q (ix2 d c) = (Q d c : EReal)) (w : FVec Ideal S1x1024 .f32) (W : ℝ)
    (l : Fin 512) (c : Fin 1024) (hw : w (ix2 (0 : Fin 1) c) = (W : EReal)) :
    shiftedScores k q w (ix2 l c) = ((score K Q c (b + l) : ℝ) : EReal) - (W : EReal) := by
  refine (Ideal.matmul_plain_apply none (shapeCast S512x128 k shapeCasts_S1x1x512x128_S512x128) (augmented q w) _ l c).trans ?_
  rw [constant_apply, Ideal.ofBits_zero_f32, zero_add]
  have e : ∀ d : Fin 128, shapeCast S512x128 k shapeCasts_S1x1x512x128_S512x128 (ix2 l d) * augmented q w (ix2 d c)
      = (fun d : ℕ => if d < 64 then ((K (b + l) d * Q d c : ℝ) : EReal) else if d = 64 then -(W : EReal) else 0) d := by
    intro d
    rw [cast_11ab, augmented_apply]
    by_cases h : d.val < 64
    · simp only [h, dite_true, if_true]
      rw [hk l d h, hq, EReal.coe_mul]
    · by_cases h2 : d.val = 64
      · simp only [h, h2, dite_false, if_false, if_true]
        rw [hk1 l d h2, hw, one_mul, zero_sub]
        simp
      · simp only [h, h2, dite_false, if_false, mul_zero]
  rw [Finset.sum_congr rfl fun d _ => e d,
    ← Finset.sum_range fun d : ℕ => if d < 64 then ((K (b + l) d * Q d c : ℝ) : EReal) else if d = 64 then -(W : EReal) else 0,
    show (128 : ℕ) = 64 + 64 from rfl, Finset.sum_range_add]
  unfold score
  rw [coe_sum, sub_eq_add_neg]
  refine congrArg₂ (· + ·) (Finset.sum_congr rfl fun d hd => if_pos (Finset.mem_range.mp hd))
    ((Finset.sum_eq_single 0 (fun d _ hd => ?_) fun h => absurd (Finset.mem_range.mpr (by norm_num)) h).trans ?_)
  · rw [if_neg (by omega), if_neg (by omega)]
  · rw [if_neg (by omega), if_pos rfl]

/-! ## Maxima -/

theorem ctxMax_apply (s : FVec Ideal S256x1024 .f32) (c : Fin 1024) :
    ctxMax s (ix2 (0 : Fin 1) c) = (Finset.univ : Finset (Fin 256)).fold max ⊥ (fun l => s (ix2 l c)) := by
  unfold ctxMax
  refine (shapeCast_a_1a_apply _ _ 0 c).trans ?_
  refine (Ideal.multiReduction_maximumf_single s _ _ _ _ (ix1 c)).trans ?_
  rw [Ideal.ofBits_def, ofBits_neg_inf]
  exact congrArg (Finset.fold max ⊥ · Finset.univ) (funext fun l => congrArg s (eq_ix2 _))

theorem chunkMax_apply (s : FVec Ideal S512x1024 .f32) (c : Fin 1024) :
    chunkMax s (ix2 (0 : Fin 1) c) = (Finset.univ : Finset (Fin 512)).fold max ⊥ (fun l => s (ix2 l c)) := by
  unfold chunkMax
  refine (shapeCast_a_1a_apply _ _ 0 c).trans ?_
  refine (Ideal.multiReduction_maximumf_single s _ _ _ _ (ix1 c)).trans ?_
  rw [Ideal.ofBits_def, ofBits_neg_inf]
  exact congrArg (Finset.fold max ⊥ · Finset.univ) (funext fun l => congrArg s (eq_ix2 _))

theorem ctxMax_real (s : FVec Ideal S256x1024 .f32) (c : Fin 1024) (h : ∀ l : Fin 256, IsReal (s (ix2 l c))) :
    IsReal (ctxMax s (ix2 (0 : Fin 1) c)) := by rw [ctxMax_apply]; exact fold_max_real (by norm_num) _ h

theorem chunkMax_real (s : FVec Ideal S512x1024 .f32) (c : Fin 1024) (h : ∀ l : Fin 512, IsReal (s (ix2 l c))) :
    IsReal (chunkMax s (ix2 (0 : Fin 1) c)) := by rw [chunkMax_apply]; exact fold_max_real (by norm_num) _ h

theorem chunkMax_pos (s : FVec Ideal S512x1024 .f32) (c : Fin 1024) (h : ∀ l : Fin 512, IsPos (s (ix2 l c))) :
    IsPos (chunkMax s (ix2 (0 : Fin 1) c)) := by rw [chunkMax_apply]; exact fold_max_pos (by norm_num) _ h

/-! ## Sums -/

theorem chunkSum_apply (v : Vec Ideal S1x1x80x512 .bf16) (p : FVec Ideal S512x1024 .f32) (r : Fin 80) (c : Fin 1024) :
    chunkSum v p (ix2 r c) = ∑ l : Fin 512, v (ix4 (0 : Fin 1) (0 : Fin 1) r l) * p (ix2 l c) := by
  refine (Ideal.matmul_plain_apply none (shapeCast S80x512 v shapeCasts_S1x1x80x512_S80x512) (truncf .bf16 p bitsLt_bf16_f32)
    _ r c).trans ?_
  rw [constant_apply, Ideal.ofBits_zero_f32, zero_add]
  exact Finset.sum_congr rfl fun l _ => congrArg (· * p (ix2 l c)) (cast_11ab v _ r l)

theorem ctxAcc_apply (v : Vec Ideal S1x1x80x256 .bf16) (s : FVec Ideal S256x1024 .f32) (w : FVec Ideal S1x1024 .f32)
    (r : Fin 80) (c : Fin 1024) :
    ctxAcc v s w (ix2 r c) = ∑ l : Fin 256, v (ix4 (0 : Fin 1) (0 : Fin 1) r l)
      * Ideal.exp2 (s (ix2 l c) - w (ix2 (0 : Fin 1) c)) := by
  refine (Ideal.matmul_plain_apply none (shapeCast S80x256 v shapeCasts_S1x1x80x256_S80x256)
    (truncf .bf16 (exp2 (subf s (broadcastTo S256x1024 w broadcasts_S1x1024_S256x1024))) bitsLt_bf16_f32) _ r c).trans ?_
  rw [constant_apply, Ideal.ofBits_zero_f32, zero_add]
  refine Finset.sum_congr rfl fun l _ => ?_
  rw [cast_11ab, truncf_apply]
  show _ * Ideal.exp2 (s (ix2 l c) - broadcastTo S256x1024 w broadcasts_S1x1024_S256x1024 (ix2 l c)) = _
  rw [broadcastTo_1b_ab_apply]

/-- The start of the accumulator at a real shift. -/
theorem ctxAcc_total (v : Vec Ideal S1x1x80x256 .bf16) (s : FVec Ideal S256x1024 .f32) (w : FVec Ideal S1x1024 .f32)
    (hv : ∀ (r : Fin 80) (l : Fin 256), v (ix4 (0 : Fin 1) (0 : Fin 1) r l) = V r l)
    (r : Fin 80) (c : Fin 1024) (W : ℝ) (hs : ∀ l : Fin 256, s (ix2 l c) = (score K Q c l : EReal))
    (hw : w (ix2 (0 : Fin 1) c) = (W : EReal)) :
    ctxAcc v s w (ix2 r c) = total (V r) (score K Q c) 256 W := by
  rw [ctxAcc_apply, total_fin]
  exact Finset.sum_congr rfl fun l _ => by rw [hv, hs, hw, exp2_sub]

/-- An accumulator brought to a new shift, plus a chunk at the new shift. -/
theorem chunk_total (v : Vec Ideal S1x1x80x512 .bf16) (b : ℕ) (p : FVec Ideal S512x1024 .f32)
    (hv : ∀ (r : Fin 80) (l : Fin 512), v (ix4 (0 : Fin 1) (0 : Fin 1) r l) = V r (b + l))
    (r : Fin 80) (c : Fin 1024) (W W' : ℝ)
    (hp : ∀ l : Fin 512, p (ix2 l c) = (((2 : ℝ) ^ (score K Q c (b + l) - W') : ℝ) : EReal)) :
    total (V r) (score K Q c) b W * Ideal.exp2 ((W : EReal) - (W' : EReal)) + chunkSum v p (ix2 r c)
      = total (V r) (score K Q c) (b + 512) W' := by
  rw [exp2_sub, total_shift, chunkSum_apply, total_add]
  exact congrArg (_ + ·) (Finset.sum_congr rfl fun l _ => by rw [hv, hp])

/-- The value rows over the row of ones. -/
theorem finish_apply (acc : FVec Ideal S80x1024 .f32) (hone : ∀ l, V 64 l = 1) (r : Fin 64) (c : Fin 1024) (n : ℕ)
    (hn : 0 < n) (W : ℝ) (h : ∀ r : Fin 80, acc (ix2 r c) = total (V r) (score K Q c) n W) :
    finish acc (ix2 r c) = average (V r) (score K Q c) n := by
  unfold finish
  rw [mulf_apply, broadcastTo_1b_ab_apply, divf_apply, broadcast_apply]
  rw [slice2_axis0_apply 0 acc _ r c (⟨r.val, by omega⟩ : Fin 80) (Nat.zero_add _).symm,
    slice2_axis0_apply 64 acc _ (0 : Fin 1) c (⟨64, by omega⟩ : Fin 80) rfl, h, h]
  have e1 : (Scalar.ofBits .f32 0x3F800000#32 : Ideal .f32) = 1 := Ideal.ofBits_one_f32
  rw [e1]
  exact total_over (V r) (V 64) hone (score K Q c) hn W

end Steps

end Cert.Attn

end
-- ==== Proof.Host.lean ====
/- The arrays that the launch reads, as the operations before it leave them: the queries scaled and laid out by head, the keys
   with a column of ones after their entries, the values with rows of ones after theirs. -/
module

public import proofs.«01_k».proof.Proof.Launch
public import proofs.«01_k».proof.Proof.Columns
public import Idealize.ShloMosaic.Lib.StableHlo.RunRead
public import Idealize.ShloMosaic.Lib.IdealHost

@[expose] public section

noncomputable section

namespace Cert.Attn

open Idealize.ShloMosaic
open Idealize.ShloMosaic.TcCoe Idealize.SL.Sem Idealize.ShloMosaic.ValueIdx
open Cert.KernelIdeal Cert.KernelIdeal.Gen

/-- Two joined arrays, each replaced by an equal one. -/
theorem joined_congr {α : Type} {S s1 s2 : Shape} {a : Fin S.rank} {x x' : s1.Idx → α} {y y' : s2.Idx → α}
    (h : Shape.Concatenates [s1, s2] S a) (hx : x = x') (hy : y = y') :
    concatenate S a [⟨s1, x⟩, ⟨s2, y⟩] h = concatenate S a [⟨s1, x'⟩, ⟨s2, y'⟩] h := by
  subst hx hy; rfl

/-! ## The layouts, of any argument -/

def hostQ (q : FVec Ideal S4x4096x8x64 .f32) : FVec Ideal S4x8x64x4096 .bf16 :=
  truncf .bf16 (transpose S4x8x64x4096 [0, 2, 3, 1]
    (mulf q (broadcastInDim S4x4096x8x64 ![] bcast_S_S4x4096x8x64
      (Host.divf (constant S_ .f32 0x3E000000#32) (Host.log (constant S_ .f32 0x40000000#32)))))
    transposes_S4x4096x8x64_S4x8x64x4096_0_2_3_1) bitsLt_bf16_f32

def hostKc (k : FVec Ideal S4x256x2x64 .f32) : FVec Ideal S4x2x256x128 .bf16 :=
  truncf .bf16 (transpose S4x2x256x128 [0, 2, 1, 3]
    (concatenate S4x256x2x128 3 [⟨S4x256x2x64, k⟩, ⟨S4x256x2x64,
      concatenate S4x256x2x64 3 [⟨S4x256x2x1, broadcastInDim S4x256x2x1 ![] bcast_S_S4x256x2x1 (constant S_ .f32 0x3F800000#32)⟩,
        ⟨S4x256x2x63, broadcastInDim S4x256x2x63 ![] bcast_S_S4x256x2x63 (constant S_ .f32 0x00000000#32)⟩]
        concatenates_S4x256x2x1_S4x256x2x63_S4x256x2x64_d3⟩] concatenates_S4x256x2x64_S4x256x2x64_S4x256x2x128_d3)
    transposes_S4x256x2x128_S4x2x256x128_0_2_1_3) bitsLt_bf16_f32

def hostKl (k : FVec Ideal S4x4096x2x64 .f32) : FVec Ideal S4x2x4096x128 .bf16 :=
  truncf .bf16 (transpose S4x2x4096x128 [0, 2, 1, 3]
    (concatenate S4x4096x2x128 3 [⟨S4x4096x2x64, k⟩, ⟨S4x4096x2x64,
      concatenate S4x4096x2x64 3 [⟨S4x4096x2x1, broadcastInDim S4x4096x2x1 ![] bcast_S_S4x4096x2x1 (constant S_ .f32 0x3F800000#32)⟩,
        ⟨S4x4096x2x63, broadcastInDim S4x4096x2x63 ![] bcast_S_S4x4096x2x63 (constant S_ .f32 0x00000000#32)⟩]
        concatenates_S4x4096x2x1_S4x4096x2x63_S4x4096x2x64_d3⟩] concatenates_S4x4096x2x64_S4x4096x2x64_S4x4096x2x128_d3)
    transposes_S4x4096x2x128_S4x2x4096x128_0_2_1_3) bitsLt_bf16_f32

def hostVc (v : FVec Ideal S4x256x2x64 .f32) : FVec Ideal S4x2x80x256 .bf16 :=
  truncf .bf16 (transpose S4x2x80x256 [0, 2, 3, 1]
    (concatenate S4x256x2x80 3 [⟨S4x256x2x64, v⟩,
      ⟨S4x256x2x16, broadcastInDim S4x256x2x16 ![] bcast_S_S4x256x2x16 (constant S_ .f32 0x3F800000#32)⟩]
      concatenates_S4x256x2x64_S4x256x2x16_S4x256x2x80_d3)
    transposes_S4x256x2x80_S4x2x80x256_0_2_3_1) bitsLt_bf16_f32

def hostVl (v : FVec Ideal S4x4096x2x64 .f32) : FVec Ideal S4x2x80x4096 .bf16 :=
  truncf .bf16 (transpose S4x2x80x4096 [0, 2, 3, 1]
    (concatenate S4x4096x2x80 3 [⟨S4x4096x2x64, v⟩,
      ⟨S4x4096x2x16, broadcastInDim S4x4096x2x16 ![] bcast_S_S4x4096x2x16 (constant S_ .f32 0x3F800000#32)⟩]
      concatenates_S4x4096x2x64_S4x4096x2x16_S4x4096x2x80_d3)
    transposes_S4x4096x2x80_S4x2x80x4096_0_2_3_1) bitsLt_bf16_f32

/-! ## What the operations leave -/

section Left

variable (m : (ℓ : Loc nD τ sig) → Buf (Elt Ideal) ℓ)

theorem left_q (c : Dev nD) : V m c main_v5 = hostQ (m (c, Proc.tc.devRef main_arg0)) := by
  unfold V
  after_reads_simp
  rfl

theorem left_kc (c : Dev nD) : V m c main_v11 = hostKc (m (c, Proc.tc.devRef main_arg1)) := by
  unfold V
  after_reads_simp
  refine congrArg (fun z : FVec Ideal S4x256x2x128 .f32 => truncf .bf16 (transpose S4x2x256x128 [0, 2, 1, 3] z
    transposes_S4x256x2x128_S4x2x256x128_0_2_1_3) bitsLt_bf16_f32) (joined_congr _ ?_ ?_)
  · after_reads_simp
  · after_reads_simp
    refine joined_congr _ ?_ ?_ <;> after_reads_simp

theorem left_vc (c : Dev nD) : V m c main_v15 = hostVc (m (c, Proc.tc.devRef main_arg2)) := by
  unfold V
  after_reads_simp
  refine congrArg (fun z : FVec Ideal S4x256x2x80 .f32 => truncf .bf16 (transpose S4x2x80x256 [0, 2, 3, 1] z
    transposes_S4x256x2x80_S4x2x80x256_0_2_3_1) bitsLt_bf16_f32) (joined_congr _ ?_ ?_) <;> after_reads_simp

theorem left_kl (c : Dev nD) : V m c main_v21 = hostKl (m (c, Proc.tc.devRef main_arg3)) := by
  unfold V
  after_reads_simp
  refine congrArg (fun z : FVec Ideal S4x4096x2x128 .f32 => truncf .bf16 (transpose S4x2x4096x128 [0, 2, 1, 3] z
    transposes_S4x4096x2x128_S4x2x4096x128_0_2_1_3) bitsLt_bf16_f32) (joined_congr _ ?_ ?_)
  · after_reads_simp
  · after_reads_simp
    refine joined_congr _ ?_ ?_ <;> after_reads_simp

theorem left_vl (c : Dev nD) : V m c main_v25 = hostVl (m (c, Proc.tc.devRef main_arg4)) := by
  unfold V
  after_reads_simp
  refine congrArg (fun z : FVec Ideal S4x4096x2x80 .f32 => truncf .bf16 (transpose S4x2x80x4096 [0, 2, 3, 1] z
    transposes_S4x4096x2x80_S4x2x80x4096_0_2_3_1) bitsLt_bf16_f32) (joined_congr _ ?_ ?_) <;> after_reads_simp

end Left

/-! ## The layouts at an index -/

/-- What the queries are scaled by: an eighth, in base-2 exponents. -/
def scale : ℝ := 1 / 8 / Real.log 2

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem log_two_pos : 0 < Real.log 2 := Real.log_pos (by norm_num)

theorem scale_eq : Ideal.div (Ideal.ofBits .f32 0x3E000000#32) (Ideal.log (Ideal.ofBits .f32 0x40000000#32)) = (scale : EReal) := by
  rw [ofBits_eighth, ofBits_two, Ideal.log_coe, if_neg (by norm_num)]
  have h := log_two_pos.ne'
  unfold Ideal.div scale
  rw [if_neg (by exact_mod_cast h), div_eq_mul_inv (1 / 8 : ℝ), EReal.coe_mul, EReal.coe_inv]

theorem hostQ_apply (q : FVec Ideal S4x4096x8x64 .f32) (b : Fin 4) (h : Fin 8) (d : Fin 64) (t : Fin 4096) :
    hostQ q (ix4 b h d t) = q (ix4 b t h d) * (scale : EReal) := by
  unfold hostQ
  rw [truncf_apply, transpose_apply _ _ _ (ix4 b h d t) (ix4 b t h d)
    (fun c => match c with | ⟨0, _⟩ => rfl | ⟨1, _⟩ => rfl | ⟨2, _⟩ => rfl | ⟨3, _⟩ => rfl), mulf_apply]
  exact congrArg (q (ix4 b t h d) * ·) scale_eq

/-- A join along the last axis reads the first array before its end … -/
theorem join_left {α : Type} {n0 n1 n2 p q r : ℕ} (x : (⟨4, ![n0, n1, n2, p]⟩ : Shape).Idx → α)
    (y : (⟨4, ![n0, n1, n2, q]⟩ : Shape).Idx → α)
    (h : Shape.Concatenates [⟨4, ![n0, n1, n2, p]⟩, ⟨4, ![n0, n1, n2, q]⟩] ⟨4, ![n0, n1, n2, r]⟩ 3)
    (a : Fin n0) (b : Fin n1) (c : Fin n2) (k : Fin r) (e : Fin p) (he : e.val = k.val) :
    concatenate ⟨4, ![n0, n1, n2, r]⟩ 3 [⟨⟨4, ![n0, n1, n2, p]⟩, x⟩, ⟨⟨4, ![n0, n1, n2, q]⟩, y⟩] h (ix4 a b c k)
      = x (ix4 a b c e) :=
  concatenate_pair_apply_left (t := ⟨4, ![n0, n1, n2, r]⟩) 3 x y h (ix4 a b c k) rfl (ix4 a b c e)
    (fun u : Fin 4 => match u with | ⟨0, _⟩ => rfl | ⟨1, _⟩ => rfl | ⟨2, _⟩ => rfl | ⟨3, _⟩ => he)

/-- … and the second from there on. -/
theorem join_right {α : Type} {n0 n1 n2 p q r : ℕ} (x : (⟨4, ![n0, n1, n2, p]⟩ : Shape).Idx → α)
    (y : (⟨4, ![n0, n1, n2, q]⟩ : Shape).Idx → α)
    (h : Shape.Concatenates [⟨4, ![n0, n1, n2, p]⟩, ⟨4, ![n0, n1, n2, q]⟩] ⟨4, ![n0, n1, n2, r]⟩ 3)
    (a : Fin n0) (b : Fin n1) (c : Fin n2) (k : Fin r) (e : Fin q) (he : e.val + p = k.val) :
    concatenate ⟨4, ![n0, n1, n2, r]⟩ 3 [⟨⟨4, ![n0, n1, n2, p]⟩, x⟩, ⟨⟨4, ![n0, n1, n2, q]⟩, y⟩] h (ix4 a b c k)
      = y (ix4 a b c e) :=
  concatenate_pair_apply_right (t := ⟨4, ![n0, n1, n2, r]⟩) 3 x y h (ix4 a b c k) rfl rfl (ix4 a b c e)
    (fun (u : Fin 4) hu => match u, hu with
      | ⟨0, _⟩, _ => rfl | ⟨1, _⟩, _ => rfl | ⟨2, _⟩, _ => rfl | ⟨3, _⟩, hu => absurd rfl hu) he

theorem hostKc_entry (k : FVec Ideal S4x256x2x64 .f32) (b : Fin 4) (g : Fin 2) (l : Fin 256) (d : Fin 128) (e : Fin 64)
    (he : e.val = d.val) : hostKc k (ix4 b g l d) = k (ix4 b l g e) := by
  unfold hostKc
  rw [truncf_apply, transpose_apply _ _ _ (ix4 b g l d) (ix4 b l g d)
    (fun c => match c with | ⟨0, _⟩ => rfl | ⟨1, _⟩ => rfl | ⟨2, _⟩ => rfl | ⟨3, _⟩ => rfl)]
  exact join_left _ _ _ b l g _ e he

theorem hostKl_entry (k : FVec Ideal S4x4096x2x64 .f32) (b : Fin 4) (g : Fin 2) (l : Fin 4096) (d : Fin 128) (e : Fin 64)
    (he : e.val = d.val) : hostKl k (ix4 b g l d) = k (ix4 b l g e) := by
  unfold hostKl
  rw [truncf_apply, transpose_apply _ _ _ (ix4 b g l d) (ix4 b l g d)
    (fun c => match c with | ⟨0, _⟩ => rfl | ⟨1, _⟩ => rfl | ⟨2, _⟩ => rfl | ⟨3, _⟩ => rfl)]
  exact join_left _ _ _ b l g _ e he

theorem hostKl_one (k : FVec Ideal S4x4096x2x64 .f32) (b : Fin 4) (g : Fin 2) (l : Fin 4096) (d : Fin 128)
    (hd : d.val = 64) : hostKl k (ix4 b g l d) = 1 := by
  unfold hostKl
  rw [truncf_apply, transpose_apply _ _ _ (ix4 b g l d) (ix4 b l g d)
    (fun c => match c with | ⟨0, _⟩ => rfl | ⟨1, _⟩ => rfl | ⟨2, _⟩ => rfl | ⟨3, _⟩ => rfl)]
  refine (join_right _ _ _ b l g d (0 : Fin 64) (show 0 + 64 = d.val by omega)).trans ?_
  refine (join_left _ _ _ b l g (0 : Fin 64) (0 : Fin 1) rfl).trans ?_
  exact Ideal.ofBits_one_f32

theorem hostVc_entry (v : FVec Ideal S4x256x2x64 .f32) (b : Fin 4) (g : Fin 2) (r : Fin 80) (l : Fin 256) (e : Fin 64)
    (he : e.val = r.val) : hostVc v (ix4 b g r l) = v (ix4 b l g e) := by
  unfold hostVc
  rw [truncf_apply, transpose_apply _ _ _ (ix4 b g r l) (ix4 b l g r)
    (fun c => match c with | ⟨0, _⟩ => rfl | ⟨1, _⟩ => rfl | ⟨2, _⟩ => rfl | ⟨3, _⟩ => rfl)]
  exact join_left _ _ _ b l g _ e he

theorem hostVc_one (v : FVec Ideal S4x256x2x64 .f32) (b : Fin 4) (g : Fin 2) (r : Fin 80) (l : Fin 256)
    (hr : 64 ≤ r.val) : hostVc v (ix4 b g r l) = 1 := by
  unfold hostVc
  rw [truncf_apply, transpose_apply _ _ _ (ix4 b g r l) (ix4 b l g r)
    (fun c => match c with | ⟨0, _⟩ => rfl | ⟨1, _⟩ => rfl | ⟨2, _⟩ => rfl | ⟨3, _⟩ => rfl)]
  refine (join_right _ _ _ b l g r (⟨r.val - 64, by omega⟩ : Fin 16) (show r.val - 64 + 64 = r.val by omega)).trans ?_
  exact Ideal.ofBits_one_f32

theorem hostVl_entry (v : FVec Ideal S4x4096x2x64 .f32) (b : Fin 4) (g : Fin 2) (r : Fin 80) (l : Fin 4096) (e : Fin 64)
    (he : e.val = r.val) : hostVl v (ix4 b g r l) = v (ix4 b l g e) := by
  unfold hostVl
  rw [truncf_apply, transpose_apply _ _ _ (ix4 b g r l) (ix4 b l g r)
    (fun c => match c with | ⟨0, _⟩ => rfl | ⟨1, _⟩ => rfl | ⟨2, _⟩ => rfl | ⟨3, _⟩ => rfl)]
  exact join_left _ _ _ b l g _ e he

theorem hostVl_one (v : FVec Ideal S4x4096x2x64 .f32) (b : Fin 4) (g : Fin 2) (r : Fin 80) (l : Fin 4096)
    (hr : 64 ≤ r.val) : hostVl v (ix4 b g r l) = 1 := by
  unfold hostVl
  rw [truncf_apply, transpose_apply _ _ _ (ix4 b g r l) (ix4 b l g r)
    (fun c => match c with | ⟨0, _⟩ => rfl | ⟨1, _⟩ => rfl | ⟨2, _⟩ => rfl | ⟨3, _⟩ => rfl)]
  refine (join_right _ _ _ b l g r (⟨r.val - 64, by omega⟩ : Fin 16) (show r.val - 64 + 64 = r.val by omega)).trans ?_
  exact Ideal.ofBits_one_f32

end Cert.Attn

end
-- ==== Proof.Answer.lean ====
/- What both programs compute: at a row of the result (a head's entry) and a token, the average of the values over the
   softmax weights of that token's query. -/
module

public import proofs.«01_k».proof.Proof.Host

@[expose] public section

noncomputable section

namespace Cert.Attn

open Idealize.ShloMosaic Idealize.ShloMosaic.TcCoe Idealize.SL.Sem Idealize.ShloMosaic.ValueIdx
open Cert.KernelIdeal Cert.KernelIdeal.Gen
open scoped BigOperators

/-- Key/value head `g`'s entry `d` at position `l`: of the context's 256 tokens, and after them of the latent stream's. -/
def along (x : FVec Ideal S4x256x2x64 .f32) (y : FVec Ideal S4x4096x2x64 .f32) (b : Fin 4) (g l d : ℕ) : EReal :=
  if l < 256 then x (ix4 b (Fin.ofNat 256 l) (Fin.ofNat 2 g) (Fin.ofNat 64 d))
  else y (ix4 b (Fin.ofNat 4096 (l - 256)) (Fin.ofNat 2 g) (Fin.ofNat 64 d))

theorem along_ctx (x : FVec Ideal S4x256x2x64 .f32) (y : FVec Ideal S4x4096x2x64 .f32) (b : Fin 4) (g : Fin 2)
    (l : Fin 256) (d : Fin 64) : along x y b g l d = x (ix4 b l g d) := by
  unfold along
  rw [if_pos l.isLt]
  simp

theorem along_lat (x : FVec Ideal S4x256x2x64 .f32) (y : FVec Ideal S4x4096x2x64 .f32) (b : Fin 4) (g : Fin 2)
    (l : Fin 4096) (d : Fin 64) : along x y b g (256 + l) d = y (ix4 b l g d) := by
  unfold along
  rw [if_neg (by omega), show 256 + l.val - 256 = l.val by omega]
  simp

/-- The values with a row of ones after a head's 64 entries. -/
def values (x : FVec Ideal S4x256x2x64 .f32) (y : FVec Ideal S4x4096x2x64 .f32) (b : Fin 4) (g r l : ℕ) : EReal :=
  if r < 64 then along x y b g l r else 1

def query (q : FVec Ideal S4x4096x8x64 .f32) (b : Fin 4) (t h d : ℕ) : EReal :=
  q (ix4 b (Fin.ofNat 4096 t) (Fin.ofNat 8 h) (Fin.ofNat 64 d))

theorem query_at (q : FVec Ideal S4x4096x8x64 .f32) (b : Fin 4) (t : Fin 4096) (h : Fin 8) (d : Fin 64) :
    query q b t h d = q (ix4 b t h d) := by
  unfold query
  simp

/-- The exponent of 2 at position `l`, for head `h` and token `t`. -/
def exponent (q : FVec Ideal S4x4096x8x64 .f32) (kc : FVec Ideal S4x256x2x64 .f32) (kl : FVec Ideal S4x4096x2x64 .f32)
    (b : Fin 4) (h t l : ℕ) : ℝ :=
  ∑ d ∈ Finset.range 64, (along kc kl b (h / 4) l d).toReal * ((query q b t h d).toReal * scale)

/-- The result at row `r` and token `t`: row `r` is entry `r % 64` of head `r / 64`. -/
def answer (q : FVec Ideal S4x4096x8x64 .f32) (kc vc : FVec Ideal S4x256x2x64 .f32) (kl vl : FVec Ideal S4x4096x2x64 .f32)
    (b : Fin 4) (r t : ℕ) : EReal :=
  average (fun l => along vc vl b (r / 64 / 4) l (r % 64)) (exponent q kc kl b (r / 64) t) 4352

/-- Queries and keys are finite. -/
structure AreReal (q : FVec Ideal S4x4096x8x64 .f32) (kc : FVec Ideal S4x256x2x64 .f32) (kl : FVec Ideal S4x4096x2x64 .f32) :
    Prop where
  q : ∀ i, q i = ((q i).toReal : EReal)
  kc : ∀ i, kc i = ((kc i).toReal : EReal)
  kl : ∀ i, kl i = ((kl i).toReal : EReal)

end Cert.Attn

end
-- ==== Proof.Chunks.lean ====
/- Both forms of the attention body over the chunks: after any number of chunks the accumulator is the sum of the values
   so far weighted at a real shift, so both forms end at the same average. -/
module

public import proofs.«01_k».proof.Proof.Columns

@[expose] public section

noncomputable section

namespace Cert.Attn

open Idealize.ShloMosaic Idealize.ShloMosaic.TcCoe Idealize.SL.Sem Idealize.ShloMosaic.ValueIdx
open Cert.KernelIdeal Cert.KernelIdeal.Gen
open scoped BigOperators

/-! ## The pieces of the blocks at an index -/

section Pieces

variable (x0 : Vec Ideal S1x8x64x256 .bf16) (x1 : Vec Ideal S1x2x256x128 .bf16) (x2 : Vec Ideal S1x2x80x256 .bf16)
  (x3 : Vec Ideal S1x2x4096x128 .bf16) (x4 : Vec Ideal S1x2x80x4096 .bf16)

theorem ld_q (h : ℕ) (hh : h < 8) (d : Fin 64) (t : Fin 256) :
    View.ld x0 (rQ h hh) (ix4 (0 : Fin 1) (0 : Fin 1) d t) = x0 (ix4 (0 : Fin 1) (⟨h, hh⟩ : Fin 8) d t) :=
  congrArg x0 (by
    funext a; apply Fin.ext
    match a with
    | ⟨0, _⟩ => rfl
    | ⟨1, _⟩ => show h + 1 * 0 = h; omega
    | ⟨2, _⟩ => show 0 + 1 * d.val = d.val; omega
    | ⟨3, _⟩ => show 0 + 1 * t.val = t.val; omega)

theorem ld_kc (g : ℕ) (hg : g < 2) (l : Fin 256) (d : Fin 64) :
    View.ld x1 (rKc g hg) (ix4 (0 : Fin 1) (0 : Fin 1) l d)
      = x1 (ix4 (0 : Fin 1) (⟨g, hg⟩ : Fin 2) l (⟨d.val, by omega⟩ : Fin 128)) :=
  congrArg x1 (by
    funext a; apply Fin.ext
    match a with
    | ⟨0, _⟩ => rfl
    | ⟨1, _⟩ => show g + 1 * 0 = g; omega
    | ⟨2, _⟩ => show 0 + 1 * l.val = l.val; omega
    | ⟨3, _⟩ => show 0 + 1 * d.val = d.val; omega)

theorem ld_vc (g : ℕ) (hg : g < 2) (r : Fin 80) (l : Fin 256) :
    View.ld x2 (rVc g hg) (ix4 (0 : Fin 1) (0 : Fin 1) r l) = x2 (ix4 (0 : Fin 1) (⟨g, hg⟩ : Fin 2) r l) :=
  congrArg x2 (by
    funext a; apply Fin.ext
    match a with
    | ⟨0, _⟩ => rfl
    | ⟨1, _⟩ => show g + 1 * 0 = g; omega
    | ⟨2, _⟩ => show 0 + 1 * r.val = r.val; omega
    | ⟨3, _⟩ => show 0 + 1 * l.val = l.val; omega)

theorem ld_kl (g n : ℕ) (hg : g < 2) (hn : n < 8) (l : Fin 512) (d : Fin 128) :
    View.ld x3 (rKl g n hg hn) (ix4 (0 : Fin 1) (0 : Fin 1) l d)
      = x3 (ix4 (0 : Fin 1) (⟨g, hg⟩ : Fin 2) (⟨512 * n + l.val, by omega⟩ : Fin 4096) d) :=
  congrArg x3 (by
    funext a; apply Fin.ext
    match a with
    | ⟨0, _⟩ => rfl
    | ⟨1, _⟩ => show g + 1 * 0 = g; omega
    | ⟨2, _⟩ => show 512 * n + 1 * l.val = 512 * n + l.val; omega
    | ⟨3, _⟩ => show 0 + 1 * d.val = d.val; omega)

theorem ld_kl' (g n : ℕ) (hg : g < 2) (hn : n < 8) (l : Fin 512) (d : Fin 64) :
    View.ld x3 (rKl' g n hg hn) (ix4 (0 : Fin 1) (0 : Fin 1) l d)
      = x3 (ix4 (0 : Fin 1) (⟨g, hg⟩ : Fin 2) (⟨512 * n + l.val, by omega⟩ : Fin 4096) (⟨d.val, by omega⟩ : Fin 128)) :=
  congrArg x3 (by
    funext a; apply Fin.ext
    match a with
    | ⟨0, _⟩ => rfl
    | ⟨1, _⟩ => show g + 1 * 0 = g; omega
    | ⟨2, _⟩ => show 512 * n + 1 * l.val = 512 * n + l.val; omega
    | ⟨3, _⟩ => show 0 + 1 * d.val = d.val; omega)

theorem ld_vl (g n : ℕ) (hg : g < 2) (hn : n < 8) (r : Fin 80) (l : Fin 512) :
    View.ld x4 (rVl g n hg hn) (ix4 (0 : Fin 1) (0 : Fin 1) r l)
      = x4 (ix4 (0 : Fin 1) (⟨g, hg⟩ : Fin 2) r (⟨512 * n + l.val, by omega⟩ : Fin 4096)) :=
  congrArg x4 (by
    funext a; apply Fin.ext
    match a with
    | ⟨0, _⟩ => rfl
    | ⟨1, _⟩ => show g + 1 * 0 = g; omega
    | ⟨2, _⟩ => show 0 + 1 * r.val = r.val; omega
    | ⟨3, _⟩ => show 512 * n + 1 * l.val = 512 * n + l.val; omega)

/-- One of the four heads' queries side by side. -/
theorem qcat_apply (a b c e : Vec Ideal S1x1x64x256 .bf16) (d : Fin 64) (j : Fin 4) (t : Fin 256) (i : Fin 1024)
    (hi : i.val = 256 * j.val + t.val) :
    qcat a b c e (ix2 d i) = (match j with | 0 => a | 1 => b | 2 => c | 3 => e) (ix4 (0 : Fin 1) (0 : Fin 1) d t) := by
  unfold qcat
  match j, hi with
  | 0, hi =>
    exact (concatenate_apply_piece 1 _ _ (ix2 d i) 0 (by simp) S64x256 _ rfl rfl 0 rfl (ix2 d t)
      (fun b hb => by match b with | ⟨0, _⟩ => rfl | ⟨1, _⟩ => exact absurd rfl hb)
      (by have h' : i.val = 256 * 0 + t.val := hi; show 0 + t.val = i.val; omega)).trans (cast_11ab a _ d t)
  | 1, hi =>
    exact (concatenate_apply_piece 1 _ _ (ix2 d i) 1 (by simp) S64x256 _ rfl rfl 256 rfl (ix2 d t)
      (fun b hb => by match b with | ⟨0, _⟩ => rfl | ⟨1, _⟩ => exact absurd rfl hb)
      (by have h' : i.val = 256 * 1 + t.val := hi; show 256 + t.val = i.val; omega)).trans (cast_11ab b _ d t)
  | 2, hi =>
    exact (concatenate_apply_piece 1 _ _ (ix2 d i) 2 (by simp) S64x256 _ rfl rfl 512 rfl (ix2 d t)
      (fun b hb => by match b with | ⟨0, _⟩ => rfl | ⟨1, _⟩ => exact absurd rfl hb)
      (by have h' : i.val = 256 * 2 + t.val := hi; show 512 + t.val = i.val; omega)).trans (cast_11ab c _ d t)
  | 3, hi =>
    exact (concatenate_apply_piece 1 _ _ (ix2 d i) 3 (by simp) S64x256 _ rfl rfl 768 rfl (ix2 d t)
      (fun b hb => by match b with | ⟨0, _⟩ => rfl | ⟨1, _⟩ => exact absurd rfl hb)
      (by have h' : i.val = 256 * 3 + t.val := hi; show 768 + t.val = i.val; omega)).trans (cast_11ab e _ d t)

theorem queries_apply (g : ℕ) (hg : g < 2) (d : Fin 64) (j : Fin 4) (t : Fin 256) (i : Fin 1024)
    (hi : i.val = 256 * j.val + t.val) :
    queries x0 g hg (ix2 d i) = x0 (ix4 (0 : Fin 1) (⟨4 * g + j.val, by omega⟩ : Fin 8) d t) := by
  unfold queries
  rw [qcat_apply _ _ _ _ d j t i hi]
  match j with
  | 0 => exact ld_q x0 (4 * g) (by omega) d t
  | 1 => exact ld_q x0 (4 * g + 1) (by omega) d t
  | 2 => exact ld_q x0 (4 * g + 2) (by omega) d t
  | 3 => exact ld_q x0 (4 * g + 3) (by omega) d t

end Pieces

/-! ## One key/value head's chunks -/

theorem log_real {s : Shape} (x : FVec Ideal s .f32) (i : s.Idx) (h : IsPos (x i)) : IsReal (log x i) := IsPos.log h

/-- What the blocks hold for key/value head `g`: the queries `Q`, the keys `K` and the values `V`, of the context's 256
    tokens and then of the latent stream's 4096, the keys' one-hot column and the values' row of ones. -/
structure Holds (K Q : ℕ → ℕ → ℝ) (V : ℕ → ℕ → EReal) (g : ℕ) (hg : g < 2) (x0 : Vec Ideal S1x8x64x256 .bf16)
    (x1 : Vec Ideal S1x2x256x128 .bf16) (x2 : Vec Ideal S1x2x80x256 .bf16) (x3 : Vec Ideal S1x2x4096x128 .bf16)
    (x4 : Vec Ideal S1x2x80x4096 .bf16) : Prop where
  q : ∀ (d : Fin 64) (c : Fin 1024), queries x0 g hg (ix2 d c) = (Q d c : EReal)
  kc : ∀ (l : Fin 256) (d : Fin 128), d.val < 64 → x1 (ix4 (0 : Fin 1) (⟨g, hg⟩ : Fin 2) l d) = (K l d : EReal)
  vc : ∀ (r : Fin 80) (l : Fin 256), x2 (ix4 (0 : Fin 1) (⟨g, hg⟩ : Fin 2) r l) = V r l
  kl : ∀ (l : Fin 4096) (d : Fin 128), d.val < 64 →
    x3 (ix4 (0 : Fin 1) (⟨g, hg⟩ : Fin 2) l d) = (K (256 + l) d : EReal)
  kl1 : ∀ (l : Fin 4096) (d : Fin 128), d.val = 64 → x3 (ix4 (0 : Fin 1) (⟨g, hg⟩ : Fin 2) l d) = 1
  vl : ∀ (r : Fin 80) (l : Fin 4096), x4 (ix4 (0 : Fin 1) (⟨g, hg⟩ : Fin 2) r l) = V r (256 + l)
  one : ∀ l, V 64 l = 1

section Chunks

variable {K Q : ℕ → ℕ → ℝ} {V : ℕ → ℕ → EReal} {g : ℕ} {hg : g < 2} {x0 : Vec Ideal S1x8x64x256 .bf16}
  {x1 : Vec Ideal S1x2x256x128 .bf16} {x2 : Vec Ideal S1x2x80x256 .bf16} {x3 : Vec Ideal S1x2x4096x128 .bf16}
  {x4 : Vec Ideal S1x2x80x4096 .bf16}

theorem Holds.ctx (H : Holds K Q V g hg x0 x1 x2 x3 x4) (l : Fin 256) (c : Fin 1024) :
    ctxScores (View.ld x1 (rKc g hg)) (queries x0 g hg) (ix2 l c) = (score K Q c l : EReal) :=
  ctxScores_apply _ (fun l d => (ld_kc x1 g hg l d).trans (H.kc l _ d.isLt)) H.q l c

theorem Holds.plain (H : Holds K Q V g hg x0 x1 x2 x3 x4) (n : ℕ) (hn : n < 8) (l : Fin 512) (c : Fin 1024) :
    plainScores (View.ld x3 (rKl' g n hg hn)) (queries x0 g hg) (ix2 l c) = (score K Q c (256 + 512 * n + l) : EReal) :=
  plainScores_apply _ (256 + 512 * n) (fun l d => (ld_kl' x3 g n hg hn l d).trans ((H.kl _ _ d.isLt).trans (by
    rw [Nat.add_assoc]))) H.q l c

theorem Holds.shifted (H : Holds K Q V g hg x0 x1 x2 x3 x4) (n : ℕ) (hn : n < 8) (w : FVec Ideal S1x1024 .f32) (W : ℝ)
    (l : Fin 512) (c : Fin 1024) (hw : w (ix2 (0 : Fin 1) c) = (W : EReal)) :
    shiftedScores (View.ld x3 (rKl g n hg hn)) (queries x0 g hg) w (ix2 l c)
      = ((score K Q c (256 + 512 * n + l) : ℝ) : EReal) - (W : EReal) :=
  shiftedScores_apply _ (256 + 512 * n)
    (fun l d hd => (ld_kl x3 g n hg hn l d).trans ((H.kl _ d hd).trans (by rw [Nat.add_assoc])))
    (fun l d hd => (ld_kl x3 g n hg hn l d).trans (H.kl1 _ d hd)) H.q w W l c hw

theorem Holds.vals (H : Holds K Q V g hg x0 x1 x2 x3 x4) (n : ℕ) (hn : n < 8) (r : Fin 80) (l : Fin 512) :
    View.ld x4 (rVl g n hg hn) (ix4 (0 : Fin 1) (0 : Fin 1) r l) = V r (256 + 512 * n + l) :=
  (ld_vl x4 g n hg hn r l).trans ((H.vl r _).trans (by rw [Nat.add_assoc]))

theorem Holds.top (H : Holds K Q V g hg x0 x1 x2 x3 x4) (c : Fin 1024) :
    IsReal (ctxMax (ctxScores (View.ld x1 (rKc g hg)) (queries x0 g hg)) (ix2 (0 : Fin 1) c)) :=
  ctxMax_real _ c fun l => ⟨_, H.ctx l c⟩

theorem Holds.first (H : Holds K Q V g hg x0 x1 x2 x3 x4) (w : FVec Ideal S1x1024 .f32) (W : ℝ) (r : Fin 80)
    (c : Fin 1024) (hw : w (ix2 (0 : Fin 1) c) = (W : EReal)) :
    ctxAcc (View.ld x2 (rVc g hg)) (ctxScores (View.ld x1 (rKc g hg)) (queries x0 g hg)) w (ix2 r c)
      = total (V r) (score K Q c) 256 W :=
  ctxAcc_total _ _ w (fun r l => (ld_vc x2 g hg r l).trans (H.vc r l)) r c W (fun l => H.ctx l c) hw

/-- The form with the running maximum, after `n` chunks. -/
theorem Holds.exact_inv (H : Holds K Q V g hg x0 x1 x2 x3 x4) (c : Fin 1024) (n : ℕ) (hn : n ≤ 8) :
    ∃ W : ℝ, (exact x0 x1 x2 x3 x4 g hg n hn).1 (ix2 (0 : Fin 1) c) = (W : EReal)
      ∧ ∀ r : Fin 80, (exact x0 x1 x2 x3 x4 g hg n hn).2 (ix2 r c) = total (V r) (score K Q c) (256 + 512 * n) W := by
  induction n with
  | zero =>
    simp only [exact, exactStart]
    obtain ⟨W, hW⟩ := H.top c
    exact ⟨W, hW, fun r => H.first _ W r c hW⟩
  | succ n ih =>
    obtain ⟨W, hW, hacc⟩ := ih (by omega)
    simp only [exact, exactStep]
    have hm : IsReal (exactMax (View.ld x3 (rKl' g n hg hn)) (queries x0 g hg) (exact x0 x1 x2 x3 x4 g hg n (by omega)).1
        (ix2 (0 : Fin 1) c)) := by
      unfold exactMax
      rw [maximumf_apply]
      exact IsReal.max ⟨W, hW⟩ (chunkMax_real _ c fun l => ⟨_, H.plain n hn l c⟩)
    obtain ⟨W', hW'⟩ := hm
    refine ⟨W', hW', fun r => ?_⟩
    rw [show 256 + 512 * (n + 1) = 256 + 512 * n + 512 by ring, addf_apply, mulf_apply, broadcastTo_1b_ab_apply, hacc r,
      EReal.mul_comm]
    refine Eq.trans (congrArg (fun z => _ * z + _) ?_) (chunk_total (View.ld x4 (rVl g n hg hn)) (256 + 512 * n) _
      (H.vals n hn) r c W W' fun l => ?_)
    · exact congrArg Ideal.exp2 (by rw [subf_apply, hW, hW'])
    · refine (congrArg Ideal.exp2 ?_).trans (exp2_sub _ _)
      rw [subf_apply, broadcastTo_1b_ab_apply, hW', H.plain n hn l c]

/-- The form with a shift decided two chunks before, after `n` chunks. -/
theorem Holds.fast_inv (H : Holds K Q V g hg x0 x1 x2 x3 x4) (c : Fin 1024) (n : ℕ) (hn : n ≤ 8) :
    IsReal ((fast x0 x1 x2 x3 x4 g hg n hn).run (ix2 (0 : Fin 1) c))
      ∧ IsReal ((fast x0 x1 x2 x3 x4 g hg n hn).nxt (ix2 (0 : Fin 1) c))
      ∧ IsReal ((fast x0 x1 x2 x3 x4 g hg n hn).nxt2 (ix2 (0 : Fin 1) c))
      ∧ ∃ W : ℝ, (fast x0 x1 x2 x3 x4 g hg n hn).old (ix2 (0 : Fin 1) c) = (W : EReal)
        ∧ ∀ r : Fin 80, (fast x0 x1 x2 x3 x4 g hg n hn).acc (ix2 r c) = total (V r) (score K Q c) (256 + 512 * n) W := by
  induction n with
  | zero =>
    simp only [fast, start]
    obtain ⟨W, hW⟩ := H.top c
    have hW' : roundTrip (ctxMax (ctxScores (View.ld x1 (rKc g hg)) (queries x0 g hg))) (ix2 (0 : Fin 1) c) = (W : EReal) := by
      unfold roundTrip
      rw [extf_apply, truncf_apply, hW]
    exact ⟨⟨W, hW⟩, ⟨W, hW'⟩, ⟨W, hW'⟩, W, hW', fun r => H.first _ W r c hW'⟩
  | succ n ih =>
    obtain ⟨hrun, ⟨W', hW'⟩, hnxt2, W, hW, hacc⟩ := ih (by omega)
    simp only [fast, step]
    have hp : ∀ l : Fin 512, exp2 (shiftedScores (View.ld x3 (rKl g n hg hn)) (queries x0 g hg)
        (fast x0 x1 x2 x3 x4 g hg n (by omega)).nxt) (ix2 l c)
        = (((2 : ℝ) ^ (score K Q c (256 + 512 * n + l) - W') : ℝ) : EReal) := by
      intro l
      exact (congrArg Ideal.exp2 (H.shifted n hn _ W' l c hW')).trans (exp2_sub _ _)
    generalize exp2 (shiftedScores (View.ld x3 (rKl g n hg hn)) (queries x0 g hg)
        (fast x0 x1 x2 x3 x4 g hg n (by omega)).nxt) = p at hp ⊢
    have hnew : IsReal (newRun p (fast x0 x1 x2 x3 x4 g hg n (by omega)).run (fast x0 x1 x2 x3 x4 g hg n (by omega)).nxt
        (ix2 (0 : Fin 1) c)) := by
      unfold newRun
      rw [maximumf_apply, addf_apply, mulf_apply, broadcast_apply]
      have hl : IsReal (log (chunkMax p) (ix2 (0 : Fin 1) c)) :=
        log_real _ _ (chunkMax_pos p c fun l => ⟨_, two_pow_pos _, hp l⟩)
      have hb : IsReal (Scalar.ofBits .f32 0x3FB8AA3B#32 : Ideal .f32) := ofBits_log2e
      have hm := IsReal.mul hl hb
      have hn := IsReal.add ⟨W', hW'⟩ hm
      exact IsReal.max hrun hn
    refine ⟨hnew, hnxt2, ?_, W', hW', fun r => ?_⟩
    · unfold roundTrip
      rw [extf_apply, truncf_apply]
      exact hnew
    · unfold newAcc
      rw [show 256 + 512 * (n + 1) = 256 + 512 * n + 512 by ring, addf_apply, mulf_apply, broadcastTo_1b_ab_apply, hacc r]
      refine Eq.trans (congrArg (fun z => _ * z + _) ?_) (chunk_total (View.ld x4 (rVl g n hg hn)) (256 + 512 * n) _
        (H.vals n hn) r c W W' hp)
      exact congrArg Ideal.exp2 (by rw [subf_apply, hW, hW'])

/-- Both forms' results. -/
theorem Holds.exact_out (H : Holds K Q V g hg x0 x1 x2 x3 x4) (r : Fin 64) (c : Fin 1024) :
    finish (exact x0 x1 x2 x3 x4 g hg 8 le_rfl).2 (ix2 r c) = average (V r) (score K Q c) 4352 := by
  obtain ⟨W, -, h⟩ := H.exact_inv c 8 le_rfl
  exact finish_apply _ H.one r c 4352 (by norm_num) W h

theorem Holds.fast_out (H : Holds K Q V g hg x0 x1 x2 x3 x4) (r : Fin 64) (c : Fin 1024) :
    finish (fast x0 x1 x2 x3 x4 g hg 8 le_rfl).acc (ix2 r c) = average (V r) (score K Q c) 4352 := by
  obtain ⟨-, -, -, W, -, h⟩ := H.fast_inv c 8 le_rfl
  exact finish_apply _ H.one r c 4352 (by norm_num) W h

end Chunks

end Cert.Attn

end
-- ==== Proof.Inputs.lean ====
/- The blocks of a point in terms of the arguments: what `Holds` asks of them. -/
module

public import proofs.«01_k».proof.Proof.Answer
public import proofs.«01_k».proof.Proof.Chunks

@[expose] public section

noncomputable section

namespace Cert.Attn

open Idealize.ShloMosaic Idealize.ShloMosaic.TcCoe Idealize.SL.Sem Idealize.ShloMosaic.ValueIdx
open Cert.KernelIdeal Cert.KernelIdeal.Gen

/-- The keys and the queries of a point, as numbers. -/
def keysAt (kc : FVec Ideal S4x256x2x64 .f32) (kl : FVec Ideal S4x4096x2x64 .f32) (b : Fin 4) (g l d : ℕ) : ℝ :=
  (along kc kl b g l d).toReal
def queriesAt (q : FVec Ideal S4x4096x8x64 .f32) (b : Fin 4) (i g d u : ℕ) : ℝ :=
  (query q b (256 * i + u % 256) (4 * g + u / 256) d).toReal * scale

section Values

variable (vc : FVec Ideal S4x256x2x64 .f32) (vl : FVec Ideal S4x4096x2x64 .f32)

theorem values_ctx (b : Fin 4) (g : Fin 2) (r : Fin 80) (l : Fin 256) : hostVc vc (ix4 b g r l) = values vc vl b g r l := by
  unfold values
  split
  · next hr =>
    rw [hostVc_entry _ _ _ r l (⟨r.val, hr⟩ : Fin 64) rfl]
    exact (along_ctx vc vl b g l (⟨r.val, hr⟩ : Fin 64)).symm
  · next hr => exact hostVc_one _ _ _ r l (by omega)

theorem values_lat (b : Fin 4) (g : Fin 2) (r : Fin 80) (l : Fin 4096) :
    hostVl vl (ix4 b g r l) = values vc vl b g r (256 + l) := by
  unfold values
  split
  · next hr =>
    rw [hostVl_entry _ _ _ r l (⟨r.val, hr⟩ : Fin 64) rfl]
    exact (along_lat vc vl b g l (⟨r.val, hr⟩ : Fin 64)).symm
  · next hr => exact hostVl_one _ _ _ r l (by omega)

theorem values_one (b : Fin 4) (g l : ℕ) : values vc vl b g 64 l = 1 := by
  unfold values
  rw [if_neg (by omega)]

end Values

section Reals

variable {q : FVec Ideal S4x4096x8x64 .f32} {kc : FVec Ideal S4x256x2x64 .f32} {kl : FVec Ideal S4x4096x2x64 .f32}
  (R : AreReal q kc kl)

include R

theorem keys_ctx (b : Fin 4) (g : Fin 2) (l : Fin 256) (d : Fin 128) (hd : d.val < 64) :
    hostKc kc (ix4 b g l d) = (keysAt kc kl b g l d : EReal) := by
  rw [hostKc_entry _ _ _ l d (⟨d.val, hd⟩ : Fin 64) rfl, R.kc]
  exact congrArg (fun x : EReal => ((x.toReal : ℝ) : EReal)) (along_ctx kc kl b g l (⟨d.val, hd⟩ : Fin 64)).symm

theorem keys_lat (b : Fin 4) (g : Fin 2) (l : Fin 4096) (d : Fin 128) (hd : d.val < 64) :
    hostKl kl (ix4 b g l d) = (keysAt kc kl b g (256 + l) d : EReal) := by
  rw [hostKl_entry _ _ _ l d (⟨d.val, hd⟩ : Fin 64) rfl, R.kl]
  exact congrArg (fun x : EReal => ((x.toReal : ℝ) : EReal)) (along_lat kc kl b g l (⟨d.val, hd⟩ : Fin 64)).symm

theorem queries_real (b : Fin 4) (h : Fin 8) (d : Fin 64) (t : Fin 4096) :
    hostQ q (ix4 b h d t) = (((query q b t h d).toReal * scale : ℝ) : EReal) := by
  rw [hostQ_apply, R.q, ← EReal.coe_mul, query_at]

/-- The blocks at batch entry `b` and the `i`-th 256 tokens hold these keys, queries and values. -/
theorem holds_of {vc : FVec Ideal S4x256x2x64 .f32} {vl : FVec Ideal S4x4096x2x64 .f32} (b : Fin 4) (i : ℕ) (hi : i < 16)
    (g : ℕ) (hg : g < 2) {x0 : Vec Ideal S1x8x64x256 .bf16} {x1 : Vec Ideal S1x2x256x128 .bf16}
    {x2 : Vec Ideal S1x2x80x256 .bf16} {x3 : Vec Ideal S1x2x4096x128 .bf16} {x4 : Vec Ideal S1x2x80x4096 .bf16}
    (h0 : ∀ (h : Fin 8) (d : Fin 64) (u : Fin 256),
      x0 (ix4 (0 : Fin 1) h d u) = hostQ q (ix4 b h d (⟨256 * i + u.val, by omega⟩ : Fin 4096)))
    (h1 : ∀ (g : Fin 2) (l : Fin 256) (d : Fin 128), x1 (ix4 (0 : Fin 1) g l d) = hostKc kc (ix4 b g l d))
    (h2 : ∀ (g : Fin 2) (r : Fin 80) (l : Fin 256), x2 (ix4 (0 : Fin 1) g r l) = hostVc vc (ix4 b g r l))
    (h3 : ∀ (g : Fin 2) (l : Fin 4096) (d : Fin 128), x3 (ix4 (0 : Fin 1) g l d) = hostKl kl (ix4 b g l d))
    (h4 : ∀ (g : Fin 2) (r : Fin 80) (l : Fin 4096), x4 (ix4 (0 : Fin 1) g r l) = hostVl vl (ix4 b g r l)) :
    Holds (keysAt kc kl b g) (queriesAt q b i g) (values vc vl b g) g hg x0 x1 x2 x3 x4 where
  q d u := by
    have hu := u.isLt
    rw [queries_apply _ g hg d (⟨u.val / 256, by omega⟩ : Fin 4) (⟨u.val % 256, by omega⟩ : Fin 256) u
      (by show u.val = 256 * (u.val / 256) + u.val % 256; omega), h0, queries_real R]
    rfl
  kc l d hd := (h1 _ l d).trans (keys_ctx R b ⟨g, hg⟩ l d hd)
  vc r l := (h2 _ r l).trans (values_ctx vc vl b ⟨g, hg⟩ r l)
  kl l d hd := (h3 _ l d).trans (keys_lat R b ⟨g, hg⟩ l d hd)
  kl1 l d hd := (h3 _ l d).trans (hostKl_one _ _ _ l d hd)
  vl r l := (h4 _ r l).trans (values_lat vc vl b ⟨g, hg⟩ r l)
  one l := values_one vc vl b g l

end Reals

end Cert.Attn

end
-- ==== Proof.Point.lean ====
/- One grid point's block of results at an index: the average of a head's values over the softmax weights, in whichever form
   the body took. -/
module

public import proofs.«01_k».proof.Proof.Chunks
public import proofs.«01_k».proof.Proof.Body
public import Idealize.ShloMosaic.Lib.Pipeline.ValueKit

@[expose] public section

noncomputable section

namespace Cert.Attn

open Idealize.ShloMosaic hiding ix2 ix3 eq_ix3
open Idealize.ShloMosaic.TcCoe Idealize.SL.Sem Idealize.ShloMosaic.ValueIdx
open Cert.KernelIdeal Cert.KernelIdeal.Gen
open scoped BigOperators

/-- Head `j` of the four, its columns moved to the front. -/
theorem headOut_apply (j : ℕ) (hj : j < 4) (o : FVec Ideal S64x1024 .f32) (u : Fin 1) (d : Fin 64) (t : Fin 256) :
    headOut j hj o (ix3 u d t) = o (ix2 d (⟨256 * j + t.val, by omega⟩ : Fin 1024)) := by
  unfold headOut
  refine (shapeCast_ab_1ab_apply _ _ u d t).trans ?_
  rw [truncf_apply]
  exact slice2_axis1_apply (256 * j) o _ d t _ rfl

/-- A head's piece of the block, where it holds the index. -/
theorem head_at (out : ℕ → ℕ → EReal) (h j : ℕ) (hh : h < 8) (hj : j < 4) (a : FVec Ideal S80x1024 .f32)
    (H : ∀ (d : Fin 64) (t : Fin 256), finish a (ix2 d (⟨256 * j + t.val, by omega⟩ : Fin 1024)) = out (64 * h + d) t)
    (r : Fin 512) (t : Fin 256) :
    View.RectAt (Val := Elt Ideal) (e := .bf16) (ix3 (0 : Fin 1) r t) (rO h hh) (headOut j hj (finish a)) (out r t) := by
  intro x hx
  obtain ⟨u, d, t', rfl⟩ : ∃ (u : Fin 1) (d : Fin 64) (t' : Fin 256), x = ix3 u d t' := ⟨_, _, _, eq_ix3 x⟩
  have e1 : 64 * h + 1 * d.val = r.val := congrArg (fun y : S1x512x256.Idx => (y 1).val) hx
  have e2 : 0 + 1 * t'.val = t.val := congrArg (fun y : S1x512x256.Idx => (y 2).val) hx
  rw [headOut_apply, H d t']
  rw [show 64 * h + d.val = r.val by omega, show t'.val = t.val by omega]

/-- The eight heads' pieces read back. -/
theorem canon_pieces (out : ℕ → ℕ → EReal) (a0 a1 : FVec Ideal S80x1024 .f32)
    (H0 : ∀ (j : ℕ) (hj : j < 4) (d : Fin 64) (t : Fin 256),
      finish a0 (ix2 d (⟨256 * j + t.val, by omega⟩ : Fin 1024)) = out (64 * j + d) t)
    (H1 : ∀ (j : ℕ) (hj : j < 4) (d : Fin 64) (t : Fin 256),
      finish a1 (ix2 d (⟨256 * j + t.val, by omega⟩ : Fin 1024)) = out (64 * (4 + j) + d) t)
    (r : Fin 512) (t : Fin 256) : View.canon (pieces a0 a1) (ix3 (0 : Fin 1) r t) = out r t := by
  refine View.canon_eq_of_allAt _ _ _ (cover_pieces _ _ _ _ _ _ _ _ _) ?_
  unfold pieces
  refine View.allAt_cons _ _ _ (head_at out 7 3 _ _ a1 (H1 3 (by omega)) r t) ?_
  refine View.allAt_cons _ _ _ (head_at out 6 2 _ _ a1 (H1 2 (by omega)) r t) ?_
  refine View.allAt_cons _ _ _ (head_at out 5 1 _ _ a1 (H1 1 (by omega)) r t) ?_
  refine View.allAt_cons _ _ _ (head_at out 4 0 _ _ a1 (H1 0 (by omega)) r t) ?_
  refine View.allAt_cons _ _ _ (head_at out 3 3 _ _ a0 (H0 3 (by omega)) r t) ?_
  refine View.allAt_cons _ _ _ (head_at out 2 2 _ _ a0 (H0 2 (by omega)) r t) ?_
  refine View.allAt_cons _ _ _ (head_at out 1 1 _ _ a0 (H0 1 (by omega)) r t) ?_
  exact View.allAt_cons _ _ _ (head_at out 0 0 _ _ a0 (H0 0 (by omega)) r t) (View.allAt_nil _ _)

/-- The block of results at a row and a column: `out` is what the averages of both key/value heads are there. -/
theorem outBlk_apply (out : ℕ → ℕ → EReal) (K Q : ℕ → ℕ → ℕ → ℝ) (V : ℕ → ℕ → ℕ → EReal) (x0 : Vec Ideal S1x8x64x256 .bf16)
    (x1 : Vec Ideal S1x2x256x128 .bf16) (x2 : Vec Ideal S1x2x80x256 .bf16) (x3 : Vec Ideal S1x2x4096x128 .bf16)
    (x4 : Vec Ideal S1x2x80x4096 .bf16)
    (H : ∀ (g : ℕ) (hg : g < 2), Holds (K g) (Q g) (V g) g hg x0 x1 x2 x3 x4)
    (Ho : ∀ (g j : ℕ) (_ : g < 2) (_ : j < 4) (d : Fin 64) (t : Fin 256),
      average (V g d) (score (K g) (Q g) (256 * j + t)) 4352 = out (64 * (4 * g + j) + d) t)
    (r : Fin 512) (t : Fin 256) : outBlk x0 x1 x2 x3 x4 (ix3 (0 : Fin 1) r t) = out r t := by
  have H0 := H 0 (by omega)
  have H1 := H 1 (by omega)
  unfold outBlk
  split
  · refine canon_pieces out _ _ (fun j hj d t => ?_) (fun j hj d t => ?_) r t
    · rw [H0.exact_out, Ho 0 j (by omega) hj d t]; simp
    · rw [H1.exact_out, Ho 1 j (by omega) hj d t]
  · refine canon_pieces out _ _ (fun j hj d t => ?_) (fun j hj d t => ?_) r t
    · rw [H0.fast_out, Ho 0 j (by omega) hj d t]; simp
    · rw [H1.fast_out, Ho 1 j (by omega) hj d t]

end Cert.Attn

end
-- ==== Proof.Arrays.lean ====
/- From one point's block to the whole result: the blocks are pieces of the arguments, and the points' blocks of results make
   up the array. -/
module

public import proofs.«01_k».proof.Proof.Inputs
public import proofs.«01_k».proof.Proof.Point

@[expose] public section

set_option maxRecDepth 16384

noncomputable section

namespace Cert.Attn

open Idealize.ShloMosaic hiding ix2 ix3 ix4 eq_ix3 eq_ix4
open Idealize.ShloMosaic.TcCoe Idealize.SL.Sem Idealize.ShloMosaic.ValueIdx
open Cert.KernelIdeal Cert.KernelIdeal.Gen

variable (m : (ℓ : Loc nD τ sig) → Buf (Elt Ideal) ℓ)

/-- The arguments of core `c`. -/
def argQ (c : Dev nD) : FVec Ideal S4x4096x8x64 .f32 := m (c, Proc.tc.devRef main_arg0)
def argKc (c : Dev nD) : FVec Ideal S4x256x2x64 .f32 := m (c, Proc.tc.devRef main_arg1)
def argVc (c : Dev nD) : FVec Ideal S4x256x2x64 .f32 := m (c, Proc.tc.devRef main_arg2)
def argKl (c : Dev nD) : FVec Ideal S4x4096x2x64 .f32 := m (c, Proc.tc.devRef main_arg3)
def argVl (c : Dev nD) : FVec Ideal S4x4096x2x64 .f32 := m (c, Proc.tc.devRef main_arg4)

/-! ## Where a point's blocks lie -/

theorem at_0 : ∀ t : Fin cfg0.N, win0_0.index t (0 : Fin 4) = t.val / 16 ∧ win0_0.index t (1 : Fin 4) = 0
    ∧ win0_0.index t (2 : Fin 4) = 0 ∧ win0_0.index t (3 : Fin 4) = t.val % 16 :=
  (by decide +kernel : ∀ t : Fin grid0.N, _)
theorem at_1 : ∀ t : Fin cfg0.N, win0_1.index t (0 : Fin 4) = t.val / 16 ∧ win0_1.index t (1 : Fin 4) = 0
    ∧ win0_1.index t (2 : Fin 4) = 0 ∧ win0_1.index t (3 : Fin 4) = 0 :=
  (by decide +kernel : ∀ t : Fin grid0.N, _)
theorem at_2 : ∀ t : Fin cfg0.N, win0_2.index t (0 : Fin 4) = t.val / 16 ∧ win0_2.index t (1 : Fin 4) = 0
    ∧ win0_2.index t (2 : Fin 4) = 0 ∧ win0_2.index t (3 : Fin 4) = 0 :=
  (by decide +kernel : ∀ t : Fin grid0.N, _)
theorem at_3 : ∀ t : Fin cfg0.N, win0_3.index t (0 : Fin 4) = t.val / 16 ∧ win0_3.index t (1 : Fin 4) = 0
    ∧ win0_3.index t (2 : Fin 4) = 0 ∧ win0_3.index t (3 : Fin 4) = 0 :=
  (by decide +kernel : ∀ t : Fin grid0.N, _)
theorem at_4 : ∀ t : Fin cfg0.N, win0_4.index t (0 : Fin 4) = t.val / 16 ∧ win0_4.index t (1 : Fin 4) = 0
    ∧ win0_4.index t (2 : Fin 4) = 0 ∧ win0_4.index t (3 : Fin 4) = 0 :=
  (by decide +kernel : ∀ t : Fin grid0.N, _)
theorem at_5 : ∀ t : Fin cfg0.N, win0_5.index t (0 : Fin 3) = t.val / 16 ∧ win0_5.index t (1 : Fin 3) = 0
    ∧ win0_5.index t (2 : Fin 3) = t.val % 16 :=
  (by decide +kernel : ∀ t : Fin grid0.N, _)

/-- The batch entry of a point, and the column its tokens begin at. -/
def batch (t : Fin cfg0.N) : Fin 4 := ⟨t.val / 16, by have h : t.val < 64 := t.isLt; omega⟩

theorem blk_q (c : Dev nD) (t : Fin cfg0.N) (h : Fin 8) (d : Fin 64) (u : Fin 256) :
    iblk m c 0 t (ix4 (0 : Fin 1) h d u)
      = hostQ (argQ m c) (ix4 (batch t) h d (⟨256 * (t.val % 16) + u.val, by omega⟩ : Fin 4096)) := by
  show V m c main_v5 (((cfg0.win 0).blk t).view.emb (ix4 (0 : Fin 1) h d u)) = _
  rw [left_q]
  refine congrArg (hostQ _) ?_
  obtain ⟨e0, e1, e2, e3⟩ := at_0 t
  funext a; apply Fin.ext
  match a with
  | ⟨0, _⟩ => show win0_0.index t (0 : Fin 4) * 1 + 1 * 0 = t.val / 16; omega
  | ⟨1, _⟩ => show win0_0.index t (1 : Fin 4) * 8 + 1 * h.val = h.val; omega
  | ⟨2, _⟩ => show win0_0.index t (2 : Fin 4) * 64 + 1 * d.val = d.val; omega
  | ⟨3, _⟩ => show win0_0.index t (3 : Fin 4) * 256 + 1 * u.val = 256 * (t.val % 16) + u.val; omega

theorem blk_kc (c : Dev nD) (t : Fin cfg0.N) (g : Fin 2) (l : Fin 256) (d : Fin 128) :
    iblk m c 1 t (ix4 (0 : Fin 1) g l d) = hostKc (argKc m c) (ix4 (batch t) g l d) := by
  show V m c main_v11 (((cfg0.win 1).blk t).view.emb (ix4 (0 : Fin 1) g l d)) = _
  rw [left_kc]
  refine congrArg (hostKc _) ?_
  obtain ⟨e0, e1, e2, e3⟩ := at_1 t
  funext a; apply Fin.ext
  match a with
  | ⟨0, _⟩ => show win0_1.index t (0 : Fin 4) * 1 + 1 * 0 = t.val / 16; omega
  | ⟨1, _⟩ => show win0_1.index t (1 : Fin 4) * 2 + 1 * g.val = g.val; omega
  | ⟨2, _⟩ => show win0_1.index t (2 : Fin 4) * 256 + 1 * l.val = l.val; omega
  | ⟨3, _⟩ => show win0_1.index t (3 : Fin 4) * 128 + 1 * d.val = d.val; omega

theorem blk_vc (c : Dev nD) (t : Fin cfg0.N) (g : Fin 2) (r : Fin 80) (l : Fin 256) :
    iblk m c 2 t (ix4 (0 : Fin 1) g r l) = hostVc (argVc m c) (ix4 (batch t) g r l) := by
  show V m c main_v15 (((cfg0.win 2).blk t).view.emb (ix4 (0 : Fin 1) g r l)) = _
  rw [left_vc]
  refine congrArg (hostVc _) ?_
  obtain ⟨e0, e1, e2, e3⟩ := at_2 t
  funext a; apply Fin.ext
  match a with
  | ⟨0, _⟩ => show win0_2.index t (0 : Fin 4) * 1 + 1 * 0 = t.val / 16; omega
  | ⟨1, _⟩ => show win0_2.index t (1 : Fin 4) * 2 + 1 * g.val = g.val; omega
  | ⟨2, _⟩ => show win0_2.index t (2 : Fin 4) * 80 + 1 * r.val = r.val; omega
  | ⟨3, _⟩ => show win0_2.index t (3 : Fin 4) * 256 + 1 * l.val = l.val; omega

theorem blk_kl (c : Dev nD) (t : Fin cfg0.N) (g : Fin 2) (l : Fin 4096) (d : Fin 128) :
    iblk m c 3 t (ix4 (0 : Fin 1) g l d) = hostKl (argKl m c) (ix4 (batch t) g l d) := by
  show V m c main_v21 (((cfg0.win 3).blk t).view.emb (ix4 (0 : Fin 1) g l d)) = _
  rw [left_kl]
  refine congrArg (hostKl _) ?_
  obtain ⟨e0, e1, e2, e3⟩ := at_3 t
  funext a; apply Fin.ext
  match a with
  | ⟨0, _⟩ => show win0_3.index t (0 : Fin 4) * 1 + 1 * 0 = t.val / 16; omega
  | ⟨1, _⟩ => show win0_3.index t (1 : Fin 4) * 2 + 1 * g.val = g.val; omega
  | ⟨2, _⟩ => show win0_3.index t (2 : Fin 4) * 4096 + 1 * l.val = l.val; omega
  | ⟨3, _⟩ => show win0_3.index t (3 : Fin 4) * 128 + 1 * d.val = d.val; omega

theorem blk_vl (c : Dev nD) (t : Fin cfg0.N) (g : Fin 2) (r : Fin 80) (l : Fin 4096) :
    iblk m c 4 t (ix4 (0 : Fin 1) g r l) = hostVl (argVl m c) (ix4 (batch t) g r l) := by
  show V m c main_v25 (((cfg0.win 4).blk t).view.emb (ix4 (0 : Fin 1) g r l)) = _
  rw [left_vl]
  refine congrArg (hostVl _) ?_
  obtain ⟨e0, e1, e2, e3⟩ := at_4 t
  funext a; apply Fin.ext
  match a with
  | ⟨0, _⟩ => show win0_4.index t (0 : Fin 4) * 1 + 1 * 0 = t.val / 16; omega
  | ⟨1, _⟩ => show win0_4.index t (1 : Fin 4) * 2 + 1 * g.val = g.val; omega
  | ⟨2, _⟩ => show win0_4.index t (2 : Fin 4) * 80 + 1 * r.val = r.val; omega
  | ⟨3, _⟩ => show win0_4.index t (3 : Fin 4) * 4096 + 1 * l.val = l.val; omega

/-! ## What a point's blocks hold -/

theorem holds (c : Dev nD) (t : Fin cfg0.N) (R : AreReal (argQ m c) (argKc m c) (argKl m c)) (g : ℕ) (hg : g < 2) :
    Holds (keysAt (argKc m c) (argKl m c) (batch t) g) (queriesAt (argQ m c) (batch t) (t.val % 16) g)
      (values (argVc m c) (argVl m c) (batch t) g) g hg
      (iblk m c 0 t) (iblk m c 1 t) (iblk m c 2 t) (iblk m c 3 t) (iblk m c 4 t) :=
  holds_of R (batch t) (t.val % 16) (Nat.mod_lt _ (by norm_num)) g hg (blk_q m c t) (blk_kc m c t) (blk_vc m c t)
    (blk_kl m c t) (blk_vl m c t)

/-- The result of core `c`. -/
def result (c : Dev nD) : FVec Ideal S4x512x4096 .bf16 := fun i =>
  answer (argQ m c) (argKc m c) (argVc m c) (argKl m c) (argVl m c) (i 0) (i 1).val (i 2).val

/-- A point's block of results is the answers of its rows and tokens. -/
theorem block_eq (c : Dev nD) (t : Fin cfg0.N) (R : AreReal (argQ m c) (argKc m c) (argKl m c)) (r : Fin 512) (u : Fin 256) :
    outBlk (iblk m c 0 t) (iblk m c 1 t) (iblk m c 2 t) (iblk m c 3 t) (iblk m c 4 t) (ix3 (0 : Fin 1) r u)
      = answer (argQ m c) (argKc m c) (argVc m c) (argKl m c) (argVl m c) (batch t) r (256 * (t.val % 16) + u) := by
  refine outBlk_apply (fun r u => answer (argQ m c) (argKc m c) (argVc m c) (argKl m c) (argVl m c) (batch t) r
    (256 * (t.val % 16) + u)) _ _ _ _ _ _ _ _ (fun g hg => holds m c t R g hg) (fun g j hg hj d u => ?_) r u
  have hd := d.isLt
  have hu := u.isLt
  unfold answer
  rw [show (64 * (4 * g + j) + d.val) / 64 = 4 * g + j by omega, show (64 * (4 * g + j) + d.val) % 64 = d.val by omega,
    show (4 * g + j) / 4 = g by omega]
  refine congr (congrArg₂ average (funext fun l => ?_) (funext fun l => ?_)) rfl
  · unfold values
    rw [if_pos hd]
  · unfold score exponent keysAt queriesAt
    rw [show (256 * j + u.val) % 256 = u.val by omega, show (256 * j + u.val) / 256 = j by omega,
      show (4 * g + j) / 4 = g by omega]

/-! ## The whole array -/

theorem flushed_eq (c : Dev nD) (t : Fin cfg0.N) (R : AreReal (argQ m c) (argKc m c) (argKl m c)) :
    (data m 0 c).flushed 5 t = ((cfg0.win 5).blk t).view.read (Elt Ideal) (result m c) := by
  unfold Pipeline.Dat.flushed
  rw [left_5]
  funext x
  obtain ⟨v, r, u, rfl⟩ : ∃ (v : Fin 1) (r : Fin 512) (u : Fin 256), x = ix3 v r u := ⟨_, _, _, eq_ix3 x⟩
  obtain rfl : v = 0 := Subsingleton.elim _ _
  refine (block_eq m c t R r u).trans ?_
  obtain ⟨e0, e1, e2⟩ := at_5 t
  show _ = result m c (((cfg0.win 5).blk t).view.emb (ix3 (0 : Fin 1) r u))
  have h : ((cfg0.win 5).blk t).view.emb (ix3 (0 : Fin 1) r u)
      = ix3 (batch t) r (⟨256 * (t.val % 16) + u.val, by omega⟩ : Fin 4096) := by
    funext a; apply Fin.ext
    match a with
    | ⟨0, _⟩ => show win0_5.index t (0 : Fin 3) * 1 + 1 * 0 = t.val / 16; omega
    | ⟨1, _⟩ => show win0_5.index t (1 : Fin 3) * 512 + 1 * r.val = r.val; omega
    | ⟨2, _⟩ => show win0_5.index t (2 : Fin 3) * 256 + 1 * u.val = 256 * (t.val % 16) + u.val; omega
  rw [h]
  rfl

theorem covered (i : S4x512x4096.Idx) : ∃ t : Fin cfg0.N, (cfg0.win 5).flush t = true ∧ i ∈ ((cfg0.win 5).blk t).view.set := by
  obtain ⟨b, r, k, rfl⟩ : ∃ (b : Fin 4) (r : Fin 512) (k : Fin 4096), i = ix3 b r k := ⟨_, _, _, eq_ix3 i⟩
  have hb := b.isLt
  have hk := k.isLt
  let t : Fin cfg0.N := ⟨16 * b.val + k.val / 256, by show _ < 64; omega⟩
  refine ⟨t, flush0_5 t, ?_⟩
  obtain ⟨e0, e1, e2⟩ := at_5 t
  have ht : t.val = 16 * b.val + k.val / 256 := rfl
  have h : ((cfg0.win 5).blk t).view.emb (ix3 (0 : Fin 1) r (⟨k.val % 256, by omega⟩ : Fin 256)) = ix3 b r k := by
    funext a; apply Fin.ext
    match a with
    | ⟨0, _⟩ => show win0_5.index t (0 : Fin 3) * 1 + 1 * 0 = b.val; omega
    | ⟨1, _⟩ => show win0_5.index t (1 : Fin 3) * 512 + 1 * r.val = r.val; omega
    | ⟨2, _⟩ => show win0_5.index t (2 : Fin 3) * 256 + 1 * (k.val % 256) = k.val; omega
  have hm := ((cfg0.win 5).blk t).view.emb_mem_set (ix3 (0 : Fin 1) r (⟨k.val % 256, by omega⟩ : Fin 256))
  rw [h] at hm
  exact hm

theorem final (c : Dev nD) (R : AreReal (argQ m c) (argKc m c) (argKl m c)) : (data m 0 c).arrAt 5 cfg0.N = result m c :=
  (data m 0 c).arrAt_eq_of_cover 5 (result m c) (fun t _ => flushed_eq m c t R) covered

end Cert.Attn

end
-- ==== Proof.RefValue.lean ====
/- The reference's value: at a row and a token, the softmax of the scores against the values, which is the same average. -/
module

public import proofs.«01_k».proof.Proof.Answer
public import proofs.«01_k».proof.Proof.Gen.ReferenceIdeal
public import Idealize.ShloMosaic.Lib.StackMember
public import Idealize.ShloMosaic.Lib.Pointwise.Reduce

@[expose] public section

noncomputable section

namespace Cert.Attn.Ref

open Idealize.ShloMosaic.TcCoe Idealize.SL.Sem Idealize.ShloMosaic.ValueIdx
open Idealize.ShloMosaic hiding ix3 ix4 ix5
open Cert.ReferenceIdeal Cert.ReferenceIdeal.Gen
open scoped BigOperators

/-! ## The reference in stages -/

/-- The context's tokens and then the latent stream's. -/
def joined (x : FVec Ideal S4x256x2x64 .f32) (y : FVec Ideal S4x4096x2x64 .f32) : FVec Ideal S4x4352x2x64 .f32 :=
  concatenate S4x4352x2x64 1 [⟨S4x256x2x64, x⟩, ⟨S4x4096x2x64, y⟩] concatenates_S4x256x2x64_S4x4096x2x64_S4x4352x2x64_d1

def grouped (q : FVec Ideal S4x4096x8x64 .f32) : FVec Ideal S4x4096x2x4x64 .f32 :=
  shapeCast _ q shapeCasts_S4x4096x8x64_S4x4096x2x4x64

def scores (k : FVec Ideal S4x4352x2x64 .f32) (q : FVec Ideal S4x4096x2x4x64 .f32) : FVec Ideal S4x2x4x4096x4352 .f32 :=
  mulf (transpose S4x2x4x4096x4352 [0, 1, 4, 3, 2]
    (Host.dotGeneral dot_S4x4352x2x64_S4x4096x2x4x64_S4x2x4352x4096x4_3_4_1_13_02_02 none k q : FVec Ideal S4x2x4352x4096x4 .f32)
    transposes_S4x2x4352x4096x4_S4x2x4x4096x4352_0_1_4_3_2)
    (broadcastInDim S4x2x4x4096x4352 ![] bcast_S_S4x2x4x4096x4352 (constant S_ .f32 0x3E000000#32))

/-- A number per query repeated along the positions. -/
def spread (x : FVec Ideal S4x2x4x4096 .f32) : FVec Ideal S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 x)

def tops (s : FVec Ideal S4x2x4x4096x4352 .f32) : FVec Ideal S4x2x4x4096 .f32 :=
  maximumf (broadcastInDim S4x2x4x4096 ![] bcast_S_S4x2x4x4096 (constant S_ .f32 0xFF800000#32))
    (Host.reduce FloatOps.maximumf s (constant S_ .f32 0xFF800000#32) reducesTo_S4x2x4x4096x4352_S4x2x4x4096_d4 h_S_)

def exps (s : FVec Ideal S4x2x4x4096x4352 .f32) : FVec Ideal S4x2x4x4096x4352 .f32 := Host.exp (subf s (spread (tops s)))

def sums (e : FVec Ideal S4x2x4x4096x4352 .f32) : FVec Ideal S4x2x4x4096 .f32 :=
  Host.reduceAdd e (constant S_ .f32 0x00000000#32) reducesTo_S4x2x4x4096x4352_S4x2x4x4096_d4 h_S_

def weights (s : FVec Ideal S4x2x4x4096x4352 .f32) : FVec Ideal S4x2x4x4096x4352 .f32 :=
  Host.divf (exps s) (spread (sums (exps s)))

def rows (v : FVec Ideal S4x4352x2x64 .f32) (w : FVec Ideal S4x2x4x4096x4352 .f32) : FVec Ideal S4x512x4096 .bf16 :=
  truncf .bf16 (transpose S4x512x4096 [0, 2, 1] (shapeCast _ (transpose S4x4096x2x4x64 [0, 4, 1, 3, 2]
    (Host.dotGeneral dot_S4x4352x2x64_S4x2x4x4096x4352_S4x2x64x4x4096_1_4_3_23_02_01 none v w : FVec Ideal S4x2x64x4x4096 .f32)
    transposes_S4x2x64x4x4096_S4x4096x2x4x64_0_4_1_3_2) shapeCasts_S4x4096x2x4x64_S4x4096x512)
    transposes_S4x4096x512_S4x512x4096_0_2_1) bitsLt_bf16_f32

/-! ## The stages at an index -/

theorem joined_apply (x : FVec Ideal S4x256x2x64 .f32) (y : FVec Ideal S4x4096x2x64 .f32) (b : Fin 4) (l : Fin 4352)
    (g : Fin 2) (d : Fin 64) : joined x y (ix4 b l g d) = along x y b g l d := by
  unfold joined
  by_cases hl : l.val < 256
  · refine (concatenate_pair_apply_left (t := S4x4352x2x64) 1 x y _ (ix4 b l g d) rfl (ix4 b (⟨l.val, hl⟩ : Fin 256) g d)
      (fun u : Fin 4 => match u with | ⟨0, _⟩ => rfl | ⟨1, _⟩ => rfl | ⟨2, _⟩ => rfl | ⟨3, _⟩ => rfl)).trans ?_
    exact (along_ctx x y b g (⟨l.val, hl⟩ : Fin 256) d).symm
  · have hl' := l.isLt
    refine (concatenate_pair_apply_right (t := S4x4352x2x64) 1 x y _ (ix4 b l g d) rfl rfl
      (ix4 b (⟨l.val - 256, by omega⟩ : Fin 4096) g d)
      (fun (u : Fin 4) hu => match u, hu with
        | ⟨0, _⟩, _ => rfl | ⟨1, _⟩, hu => absurd rfl hu | ⟨2, _⟩, _ => rfl | ⟨3, _⟩, _ => rfl)
      (show l.val - 256 + 256 = l.val by omega)).trans ?_
    refine (along_lat x y b g (⟨l.val - 256, by omega⟩ : Fin 4096) d).symm.trans ?_
    rw [show 256 + (l.val - 256) = l.val by omega]

theorem grouped_apply (q : FVec Ideal S4x4096x8x64 .f32) (b : Fin 4) (t : Fin 4096) (g : Fin 2) (j : Fin 4) (d : Fin 64) :
    grouped q (ix5 b t g j d) = query q b t (4 * g + j) d := by
  unfold grouped
  refine (shapeCast_apply q _ (ix5 b t g j d) (ix4 b t (⟨4 * g.val + j.val, by omega⟩ : Fin 8) d) ?_).trans
    (query_at q b t (⟨4 * g.val + j.val, by omega⟩ : Fin 8) d).symm
  rw [Shape.rowMajor_val_four, Shape.rowMajor_val_five]
  show ((b.val * 4096 + t.val) * 8 + (4 * g.val + j.val)) * 64 + d.val
    = (((b.val * 4096 + t.val) * 2 + g.val) * 4 + j.val) * 64 + d.val
  omega

theorem product_apply (k : FVec Ideal S4x4352x2x64 .f32) (q : FVec Ideal S4x4096x2x4x64 .f32) (b : Fin 4) (g : Fin 2)
    (l : Fin 4352) (t : Fin 4096) (j : Fin 4) :
    (Host.dotGeneral dot_S4x4352x2x64_S4x4096x2x4x64_S4x2x4352x4096x4_3_4_1_13_02_02 none k q : FVec Ideal S4x2x4352x4096x4 .f32)
      (ix5 b g l t j) = ∑ d : Fin 64, k (ix4 b l g d) * q (ix5 b t g j d) := by
  show FloatOps.dotGeneral _ none _ k q (ix5 b g l t j) = _
  rw [Ideal.dotGeneral_apply, ← Equiv.sum_comp
    (contrEquiv1 dot_S4x4352x2x64_S4x4096x2x4x64_S4x2x4352x4096x4_3_4_1_13_02_02 64 rfl rfl).symm]
  refine Finset.sum_congr rfl fun d _ => ?_
  have hd := contrEquiv1_symm_val dot_S4x4352x2x64_S4x4096x2x4x64_S4x2x4352x4096x4_3_4_1_13_02_02 64 rfl rfl d
  have hl : dot_S4x4352x2x64_S4x4096x2x4x64_S4x2x4352x4096x4_3_4_1_13_02_02.lhsIdx (ix5 b g l t j)
      ((contrEquiv1 _ 64 rfl rfl).symm d) = ix4 b l g d := by
    funext ax; apply Fin.ext
    match ax with
    | ⟨0, _⟩ => simp [DotDims.lhsIdx, dot_S4x4352x2x64_S4x4096x2x4x64_S4x2x4352x4096x4_3_4_1_13_02_02]; rfl
    | ⟨1, _⟩ => simp [DotDims.lhsIdx, dot_S4x4352x2x64_S4x4096x2x4x64_S4x2x4352x4096x4_3_4_1_13_02_02]; rfl
    | ⟨2, _⟩ => simp [DotDims.lhsIdx, dot_S4x4352x2x64_S4x4096x2x4x64_S4x2x4352x4096x4_3_4_1_13_02_02]; rfl
    | ⟨3, _⟩ => simp [DotDims.lhsIdx, dot_S4x4352x2x64_S4x4096x2x4x64_S4x2x4352x4096x4_3_4_1_13_02_02]; exact hd
  have hr : dot_S4x4352x2x64_S4x4096x2x4x64_S4x2x4352x4096x4_3_4_1_13_02_02.rhsIdx (ix5 b g l t j)
      ((contrEquiv1 _ 64 rfl rfl).symm d) = ix5 b t g j d := by
    funext ax; apply Fin.ext
    match ax with
    | ⟨0, _⟩ => simp [DotDims.rhsIdx, dot_S4x4352x2x64_S4x4096x2x4x64_S4x2x4352x4096x4_3_4_1_13_02_02]; rfl
    | ⟨1, _⟩ => simp [DotDims.rhsIdx, dot_S4x4352x2x64_S4x4096x2x4x64_S4x2x4352x4096x4_3_4_1_13_02_02]; rfl
    | ⟨2, _⟩ => simp [DotDims.rhsIdx, dot_S4x4352x2x64_S4x4096x2x4x64_S4x2x4352x4096x4_3_4_1_13_02_02]; rfl
    | ⟨3, _⟩ => simp [DotDims.rhsIdx, dot_S4x4352x2x64_S4x4096x2x4x64_S4x2x4352x4096x4_3_4_1_13_02_02]; rfl
    | ⟨4, _⟩ => simp [DotDims.rhsIdx, dot_S4x4352x2x64_S4x4096x2x4x64_S4x2x4352x4096x4_3_4_1_13_02_02]; exact hd
  rw [hl, hr]

theorem weighted_apply (v : FVec Ideal S4x4352x2x64 .f32) (w : FVec Ideal S4x2x4x4096x4352 .f32) (b : Fin 4) (g : Fin 2)
    (d : Fin 64) (j : Fin 4) (t : Fin 4096) :
    (Host.dotGeneral dot_S4x4352x2x64_S4x2x4x4096x4352_S4x2x64x4x4096_1_4_3_23_02_01 none v w : FVec Ideal S4x2x64x4x4096 .f32)
      (ix5 b g d j t) = ∑ l : Fin 4352, v (ix4 b l g d) * w (ix5 b g j t l) := by
  show FloatOps.dotGeneral _ none _ v w (ix5 b g d j t) = _
  rw [Ideal.dotGeneral_apply, ← Equiv.sum_comp
    (contrEquiv1 dot_S4x4352x2x64_S4x2x4x4096x4352_S4x2x64x4x4096_1_4_3_23_02_01 4352 rfl rfl).symm]
  refine Finset.sum_congr rfl fun l _ => ?_
  have hc := contrEquiv1_symm_val dot_S4x4352x2x64_S4x2x4x4096x4352_S4x2x64x4x4096_1_4_3_23_02_01 4352 rfl rfl l
  have hl : dot_S4x4352x2x64_S4x2x4x4096x4352_S4x2x64x4x4096_1_4_3_23_02_01.lhsIdx (ix5 b g d j t)
      ((contrEquiv1 _ 4352 rfl rfl).symm l) = ix4 b l g d := by
    funext ax; apply Fin.ext
    match ax with
    | ⟨0, _⟩ => simp [DotDims.lhsIdx, dot_S4x4352x2x64_S4x2x4x4096x4352_S4x2x64x4x4096_1_4_3_23_02_01]; rfl
    | ⟨1, _⟩ => simp [DotDims.lhsIdx, dot_S4x4352x2x64_S4x2x4x4096x4352_S4x2x64x4x4096_1_4_3_23_02_01]; exact hc
    | ⟨2, _⟩ => simp [DotDims.lhsIdx, dot_S4x4352x2x64_S4x2x4x4096x4352_S4x2x64x4x4096_1_4_3_23_02_01]; rfl
    | ⟨3, _⟩ => simp [DotDims.lhsIdx, dot_S4x4352x2x64_S4x2x4x4096x4352_S4x2x64x4x4096_1_4_3_23_02_01]; rfl
  have hr : dot_S4x4352x2x64_S4x2x4x4096x4352_S4x2x64x4x4096_1_4_3_23_02_01.rhsIdx (ix5 b g d j t)
      ((contrEquiv1 _ 4352 rfl rfl).symm l) = ix5 b g j t l := by
    funext ax; apply Fin.ext
    match ax with
    | ⟨0, _⟩ => simp [DotDims.rhsIdx, dot_S4x4352x2x64_S4x2x4x4096x4352_S4x2x64x4x4096_1_4_3_23_02_01]; rfl
    | ⟨1, _⟩ => simp [DotDims.rhsIdx, dot_S4x4352x2x64_S4x2x4x4096x4352_S4x2x64x4x4096_1_4_3_23_02_01]; rfl
    | ⟨2, _⟩ => simp [DotDims.rhsIdx, dot_S4x4352x2x64_S4x2x4x4096x4352_S4x2x64x4x4096_1_4_3_23_02_01]; rfl
    | ⟨3, _⟩ => simp [DotDims.rhsIdx, dot_S4x4352x2x64_S4x2x4x4096x4352_S4x2x64x4x4096_1_4_3_23_02_01]; rfl
    | ⟨4, _⟩ => simp [DotDims.rhsIdx, dot_S4x4352x2x64_S4x2x4x4096x4352_S4x2x64x4x4096_1_4_3_23_02_01]; exact hc
  rw [hl, hr]

theorem scores_apply (k : FVec Ideal S4x4352x2x64 .f32) (q : FVec Ideal S4x4096x2x4x64 .f32) (b : Fin 4) (g : Fin 2)
    (j : Fin 4) (t : Fin 4096) (l : Fin 4352) :
    scores k q (ix5 b g j t l) = (∑ d : Fin 64, k (ix4 b l g d) * q (ix5 b t g j d)) * ((1 / 8 : ℝ) : EReal) := by
  unfold scores
  rw [mulf_apply, transpose_apply _ _ _ (ix5 b g j t l) (ix5 b g l t j)
    (fun c => match c with | ⟨0, _⟩ => rfl | ⟨1, _⟩ => rfl | ⟨2, _⟩ => rfl | ⟨3, _⟩ => rfl | ⟨4, _⟩ => rfl), product_apply]
  exact congrArg (_ * ·) ofBits_eighth

theorem spread_apply (x : FVec Ideal S4x2x4x4096 .f32) (b : Fin 4) (g : Fin 2) (j : Fin 4) (t : Fin 4096) (l : Fin 4352) :
    spread x (ix5 b g j t l) = x (ix4 b g j t) := by
  unfold spread
  rw [broadcastInDim_apply _ _ _ (ix5 b g j t l) (ix5 b g j t (0 : Fin 1))
    (fun c => match c with | ⟨0, _⟩ => rfl | ⟨1, _⟩ => rfl | ⟨2, _⟩ => rfl | ⟨3, _⟩ => rfl | ⟨4, _⟩ => rfl)]
  exact broadcastInDim_apply _ _ _ (ix5 b g j t (0 : Fin 1)) (ix4 b g j t)
    (fun c => match c with | ⟨0, _⟩ => rfl | ⟨1, _⟩ => rfl | ⟨2, _⟩ => rfl | ⟨3, _⟩ => rfl)

theorem tops_real (s : FVec Ideal S4x2x4x4096x4352 .f32) (b : Fin 4) (g : Fin 2) (j : Fin 4) (t : Fin 4096)
    (h : ∀ l : Fin 4352, IsReal (s (ix5 b g j t l))) : IsReal (tops s (ix4 b g j t)) := by
  unfold tops
  rw [maximumf_apply, Host.reduce_eq_fold, Shape.ReducesTo.fold_fiber_r5_a4]
  have e : ((broadcastInDim S4x2x4x4096 ![] bcast_S_S4x2x4x4096 (constant S_ .f32 0xFF800000#32) : FVec Ideal S4x2x4x4096 .f32)
      (ix4 b g j t)) = (⊥ : EReal) := ofBits_neg_inf
  rw [e, max_bot_left]
  have e' : (constant S_ .f32 0xFF800000#32 : FVec Ideal S_ .f32) (Shape.Idx.first h_S_) = (⊥ : EReal) := ofBits_neg_inf
  rw [e']
  exact fold_max_real (by norm_num) _ h

theorem sums_apply (e : FVec Ideal S4x2x4x4096x4352 .f32) (b : Fin 4) (g : Fin 2) (j : Fin 4) (t : Fin 4096) :
    sums e (ix4 b g j t) = ∑ l : Fin 4352, e (ix5 b g j t l) := by
  unfold sums
  rw [hostReduceAdd_apply]
  unfold Ideal.hostReduceAdd
  rw [Shape.ReducesTo.sum_fiber_r5_a4]
  have e0 : (constant S_ .f32 0x00000000#32 : FVec Ideal S_ .f32) (Shape.Idx.first h_S_) = (0 : EReal) := Ideal.ofBits_zero_f32
  rw [e0, zero_add]
  refine Finset.sum_congr rfl fun l _ => congrArg e ?_
  funext ax
  match ax with
  | ⟨0, _⟩ => rfl
  | ⟨1, _⟩ => rfl
  | ⟨2, _⟩ => rfl
  | ⟨3, _⟩ => rfl
  | ⟨4, _⟩ => rfl

theorem rows_apply (v : FVec Ideal S4x4352x2x64 .f32) (w : FVec Ideal S4x2x4x4096x4352 .f32) (b : Fin 4) (g : Fin 2)
    (j : Fin 4) (d : Fin 64) (t : Fin 4096) (r : Fin 512) (hr : r.val = 64 * (4 * g.val + j.val) + d.val) :
    rows v w (ix3 b r t) = ∑ l : Fin 4352, v (ix4 b l g d) * w (ix5 b g j t l) := by
  unfold rows
  rw [truncf_apply, transpose_ix3_021_apply, shapeCast_apply _ _ (ix3 b t r) (ix5 b t g j d) (by
    rw [Shape.rowMajor_val_three, Shape.rowMajor_val_five]
    show (((b.val * 4096 + t.val) * 2 + g.val) * 4 + j.val) * 64 + d.val = (b.val * 4096 + t.val) * 512 + r.val
    omega), transpose_apply _ _ _ (ix5 b t g j d) (ix5 b g d j t)
    (fun c => match c with | ⟨0, _⟩ => rfl | ⟨1, _⟩ => rfl | ⟨2, _⟩ => rfl | ⟨3, _⟩ => rfl | ⟨4, _⟩ => rfl)]
  exact weighted_apply v w b g d j t

/-! ## The reference's value -/

/-- The reference's score at position `l`, for head `h` and token `t`. -/
def plain (q : FVec Ideal S4x4096x8x64 .f32) (kc : FVec Ideal S4x256x2x64 .f32) (kl : FVec Ideal S4x4096x2x64 .f32)
    (b : Fin 4) (h t l : ℕ) : ℝ :=
  (∑ d ∈ Finset.range 64, (along kc kl b (h / 4) l d).toReal * (query q b t h d).toReal) * (1 / 8)

theorem exponent_log (q : FVec Ideal S4x4096x8x64 .f32) (kc : FVec Ideal S4x256x2x64 .f32) (kl : FVec Ideal S4x4096x2x64 .f32)
    (b : Fin 4) (h t l : ℕ) : exponent q kc kl b h t l * Real.log 2 = plain q kc kl b h t l := by
  unfold exponent plain scale
  rw [Finset.sum_mul, Finset.sum_mul]
  refine Finset.sum_congr rfl fun d _ => ?_
  have hl := log_two_pos.ne'
  field_simp

theorem along_real {q : FVec Ideal S4x4096x8x64 .f32} {kc : FVec Ideal S4x256x2x64 .f32} {kl : FVec Ideal S4x4096x2x64 .f32}
    (R : AreReal q kc kl) (b : Fin 4) (g l d : ℕ) : along kc kl b g l d = ((along kc kl b g l d).toReal : EReal) := by
  unfold along
  split
  · exact R.kc _
  · exact R.kl _

theorem scores_real {q : FVec Ideal S4x4096x8x64 .f32} {kc : FVec Ideal S4x256x2x64 .f32} {kl : FVec Ideal S4x4096x2x64 .f32}
    (R : AreReal q kc kl) (b : Fin 4) (g : Fin 2) (j : Fin 4) (t : Fin 4096) (l : Fin 4352) :
    scores (joined kc kl) (grouped q) (ix5 b g j t l) = (plain q kc kl b (4 * g + j) t l : EReal) := by
  rw [scores_apply]
  unfold plain
  rw [EReal.coe_mul, coe_sum, show (4 * g.val + j.val) / 4 = g.val by omega,
    ← Fin.sum_univ_eq_sum_range (fun d => (((along kc kl b g l d).toReal * (query q b t (4 * g + j) d).toReal : ℝ) : EReal)) 64]
  refine congrArg (· * _) (Finset.sum_congr rfl fun d _ => ?_)
  rw [joined_apply, grouped_apply, EReal.coe_mul, ← along_real R]
  exact congrArg (_ * ·) (R.q _)

/-- The reference's result at row `r` and token `t`. -/
theorem value {q : FVec Ideal S4x4096x8x64 .f32} {kc : FVec Ideal S4x256x2x64 .f32} {kl : FVec Ideal S4x4096x2x64 .f32}
    (R : AreReal q kc kl) (vc : FVec Ideal S4x256x2x64 .f32) (vl : FVec Ideal S4x4096x2x64 .f32) (b : Fin 4) (r : Fin 512)
    (t : Fin 4096) :
    rows (joined vc vl) (weights (scores (joined kc kl) (grouped q))) (ix3 b r t) = answer q kc vc kl vl b r t := by
  have hr := r.isLt
  obtain ⟨g, hg⟩ : ∃ g : Fin 2, g.val = r.val / 64 / 4 := ⟨⟨r.val / 64 / 4, by omega⟩, rfl⟩
  obtain ⟨j, hj⟩ : ∃ j : Fin 4, j.val = r.val / 64 % 4 := ⟨⟨r.val / 64 % 4, by omega⟩, rfl⟩
  obtain ⟨d, hd⟩ : ∃ d : Fin 64, d.val = r.val % 64 := ⟨⟨r.val % 64, by omega⟩, rfl⟩
  have hh : 4 * g.val + j.val = r.val / 64 := by omega
  rw [rows_apply _ _ b g j d t r (by omega)]
  have hs := scores_real R b g j t
  generalize scores (joined kc kl) (grouped q) = s at hs ⊢
  obtain ⟨M, hM⟩ := tops_real s b g j t fun l => ⟨_, hs l⟩
  have he : ∀ l : Fin 4352, exps s (ix5 b g j t l)
      = Ideal.exp ((plain q kc kl b (4 * g + j) t l : EReal) - (M : EReal)) := by
    intro l
    unfold exps
    show Ideal.exp (subf s (spread (tops s)) (ix5 b g j t l)) = _
    rw [subf_apply, spread_apply, hs, hM]
  have hw : ∀ l : Fin 4352, weights s (ix5 b g j t l)
      = Ideal.div (Ideal.exp ((plain q kc kl b (4 * g + j) t l : EReal) - (M : EReal)))
        (∑ k ∈ Finset.range 4352, Ideal.exp ((plain q kc kl b (4 * g + j) t k : EReal) - (M : EReal))) := by
    intro l
    unfold weights
    rw [hostDivf_apply, spread_apply, sums_apply, he,
      ← Fin.sum_univ_eq_sum_range (fun k => Ideal.exp ((plain q kc kl b (4 * g + j) t k : EReal) - (M : EReal))) 4352]
    exact congrArg _ (Finset.sum_congr rfl fun k _ => he k)
  unfold answer
  rw [← hh, show (4 * g.val + j.val) / 4 = g.val by omega, ← hd,
    ← average_of_softmax (fun l => along vc vl b g l d) (exponent q kc kl b (4 * g + j) t) (plain q kc kl b (4 * g + j) t) M
      (by norm_num) (exponent_log q kc kl b (4 * g + j) t),
    ← Fin.sum_univ_eq_sum_range (fun l => along vc vl b g l d
      * Ideal.div (Ideal.exp ((plain q kc kl b (4 * g + j) t l : EReal) - (M : EReal)))
        (∑ k ∈ Finset.range 4352, Ideal.exp ((plain q kc kl b (4 * g + j) t k : EReal) - (M : EReal)))) 4352]
  refine Finset.sum_congr rfl fun l _ => ?_
  rw [joined_apply, hw]

end Cert.Attn.Ref

end
-- ==== Proof.Equal.lean ====
/- The equation: at exact numbers, on finite queries and keys, the kernel's array and the reference's are the same. -/
module

public import proofs.«01_k».proof.Defs
public import proofs.«01_k».proof.Proof.Arrays
public import proofs.«01_k».proof.Proof.RefValue
public import proofs.«01_k».proof.Proof.Gen.ReferenceIdeal.Run
public import proofs.«01_k».proof.Proof.Gen.Pre_finite_qk

@[expose] public section

set_option maxRecDepth 16384

noncomputable section

namespace Cert.Attn

open Idealize.ShloMosaic hiding ix2 ix3 ix4 ix5 eq_ix3 eq_ix4
open Idealize.ShloMosaic.TcCoe Idealize.SL.Sem Idealize.ShloMosaic.ValueIdx

/-! ## The precondition -/

theorem ofBits_inf : Ideal.ofBits .f32 0x7F800000#32 = (⊤ : EReal) := by
  simp [Ideal.ofBits, Ideal.ieee]

/-- What the comparison with infinity says of a number. -/
theorem real_of_below (x : EReal) (h : Ideal.cmp .olt (max x (-x)) (⊤ : EReal) = 1#1) : x = (x.toReal : EReal) := by
  refine (EReal.coe_toReal ?_ ?_).symm
  · rintro rfl
    simp [Ideal.cmp] at h
  · rintro rfl
    simp [Ideal.cmp] at h

/-- The precondition makes the queries and the keys real. -/
theorem real_of_finite (q : FVec Ideal Cert.KernelIdeal.S4x4096x8x64 .f32) (kc vc : FVec Ideal Cert.KernelIdeal.S4x256x2x64 .f32)
    (kl vl : FVec Ideal Cert.KernelIdeal.S4x4096x2x64 .f32)
    (h : (Cert.Pre_finite_qk.fn (F := Ideal) q kc vc kl vl).1 = (fun _ => 1#1)
      ∧ (Cert.Pre_finite_qk.fn (F := Ideal) q kc vc kl vl).2.1 = (fun _ => 1#1)
      ∧ (Cert.Pre_finite_qk.fn (F := Ideal) q kc vc kl vl).2.2 = (fun _ => 1#1)) : AreReal q kc kl where
  q i := real_of_below _ (by rw [← ofBits_inf]; exact congrFun h.1 i)
  kc i := real_of_below _ (by rw [← ofBits_inf]; exact congrFun h.2.1 i)
  kl i := real_of_below _ (by rw [← ofBits_inf]; exact congrFun h.2.2 i)

/-! ## The reference's array -/

/-- The reference's array, all of it. -/
theorem ref_all {q : FVec Ideal Cert.KernelIdeal.S4x4096x8x64 .f32} {kc : FVec Ideal Cert.KernelIdeal.S4x256x2x64 .f32}
    {kl : FVec Ideal Cert.KernelIdeal.S4x4096x2x64 .f32} (R : AreReal q kc kl)
    (vc : FVec Ideal Cert.KernelIdeal.S4x256x2x64 .f32) (vl : FVec Ideal Cert.KernelIdeal.S4x4096x2x64 .f32) :
    Ref.rows (Ref.joined vc vl) (Ref.weights (Ref.scores (Ref.joined kc kl) (Ref.grouped q)))
      = fun i => answer q kc vc kl vl (i 0) (i 1).val (i 2).val := by
  funext i
  have hi : i = ix3 (i 0) (i 1) (i 2) := by
    funext ax
    match ax with
    | ⟨0, _⟩ => rfl
    | ⟨1, _⟩ => rfl
    | ⟨2, _⟩ => rfl
  exact (congrArg (Ref.rows _ _) hi).trans (Ref.value R vc vl (i 0) (i 1) (i 2))

/-- The reference's run, with the result in stages. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
      r.2.mem ((c.tc : Thread Cert.ReferenceIdeal.nD Cert.ReferenceIdeal.τ).loc Cert.ReferenceIdeal.main_v22)
        = Ref.rows (Ref.joined (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg4)))
          (Ref.weights (Ref.scores
            (Ref.joined (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg3)))
            (Ref.grouped (m' ((c.tc : Thread Cert.ReferenceIdeal.nD Cert.ReferenceIdeal.τ).loc Cert.ReferenceIdeal.main_arg0)))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) := by
  unfold Ref.rows Ref.weights Ref.sums Ref.exps Ref.tops Ref.spread Ref.scores Ref.grouped Ref.joined
  exact Cert.ReferenceIdeal.Value.run (F := Ideal) m' g'

/-! ## The equation -/

/-- At exact numbers the kernel and the reference give the same array. -/
theorem equal : Cert.algebraic_KernelIdeal_ReferenceIdeal_pre_finite_qk := by
  intro m g m' g' hp ha
  have R : ∀ c, AreReal (argQ m c) (argKc m c) (argKl m c) := fun c => real_of_finite _ _ _ _ _ (hp c)
  refine ⟨fun c => result m c, ?_, ?_⟩
  · refine (θ_run _ _ _).mono (fun r h c => ⟨(h.1 c).trans (final m c (R c)), h.2.1 c⟩)
      (θ_run_and ((θ_run _ _ _).mono (fun r h c => (h.1 c).1 5) (launch_run m g)) (frames m g))
  · refine (θ_run _ _ _).mono (fun r h c => ⟨(h c).1.trans ?_, (h c).2⟩) (ref_run m' g')
    rw [(ha c).1, (ha c).2.1, (ha c).2.2.1, (ha c).2.2.2.1, (ha c).2.2.2.2]
    exact ref_all (R c) (argVc m c) (argVl m c)

end Cert.Attn

end
-- ==== Proof.Frames2.lean ====
/- The frames of the feed-forward call's three programs. -/
module

public import proofs.«01_k».proof.Defs
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite_ffn
public import Idealize.ShloMosaic.Adequacy
public import Idealize.ShloMosaic.Init

@[expose] public section

set_option maxRecDepth 100000

noncomputable section

namespace Cert.Ffn

open Idealize.ShloMosaic Idealize.SL.Sem

/-- The two prints of the feed-forward call have one body table. -/
theorem same_table : Cert.Kernel2.defs₀ (F := Bits) = Cert.Kernel2Ideal.defs₀ := by
  unfold Cert.Kernel2.defs₀ Cert.Kernel2Ideal.defs₀
  refine congrArg Defs.onTc ?_
  funext l a
  obtain ⟨l, hl⟩ := l
  obtain rfl : l = 0 := by omega
  obtain ⟨t, s⟩ := a
  rfl

/-- The feed-forward call at the machine's own numbers. -/
theorem frame_kernel : Cert.quiescent_Kernel2 := by
  intro m ρ _
  have h := Cert.Kernel2Ideal.Gen.frame (F := Bits) m ρ
  unfold Cert.Kernel2Ideal.defs at h
  rw [← same_table] at h
  exact h

/-- The feed-forward call at the ideal numbers. -/
theorem frame_ideal : Cert.quiescent_Kernel2Ideal := fun m ρ _ => Cert.Kernel2Ideal.Gen.frame (F := Ideal) m ρ

/-- The same under the precondition of the equation, which the frame does not need. -/
theorem frame_ideal_pre : Cert.quiescent_Kernel2Ideal_pre_finite_ffn := fun m ρ _ => Cert.Kernel2Ideal.Gen.frame (F := Ideal) m ρ

/-- The reference leaves its arguments as they were; it has no semaphores. -/
theorem frame_reference : Cert.quiescent_Reference2Ideal := fun m ρ _ =>
  (θ_run Cert.Reference2Ideal.defs _ _).mono (fun r h => And.intro (fun c => (h c).2)
    (Idealize.ShloMosaic.sem_eq_zero_of_no_sems (by decide) r.2)) (Cert.Reference2Ideal.Value.run (F := Ideal) m ρ)

/-- The same under the precondition. -/
theorem frame_reference_pre : Cert.quiescent_Reference2Ideal_pre_finite_ffn := fun m ρ _ =>
  frame_reference m ρ trivial

end Cert.Ffn

end
-- ==== Proof.FfnHost.lean ====
/- The arrays that the feed-forward launch reads, and its windows on them: the rows group by group, and the second layer's
   weights. -/
module

public import proofs.«01_k».proof.Proof.Gen.Kernel2Ideal.Frame
public import proofs.«01_k».proof.Proof.Gen.Kernel2Ideal.Value
public import Idealize.ShloMosaic.Lib.Pointwise
public import Idealize.ShloMosaic.Lib.StableHlo.RunRead
public import Idealize.ShloMosaic.Lib.IdealHost

@[expose] public section

set_option maxRecDepth 16384

noncomputable section

namespace Cert.Ffn

open Idealize.ShloMosaic Idealize.ShloMosaic.TcCoe Idealize.ShloMosaic.Tactic Idealize.SL.Sem
open Cert.Kernel2Ideal Cert.Kernel2Ideal.Gen

/-! ## The layouts -/

/-- The rows, the eight tokens of a group one after another. -/
def packed (x : FVec Ideal S4x4096x1024 .f32) : FVec Ideal S16384x1024 .f32 :=
  shapeCast S16384x1024 (transpose S4x512x8x1024 [0, 2, 1, 3] (shapeCast S4x8x512x1024 x shapeCasts_S4x4096x1024_S4x8x512x1024)
    transposes_S4x8x512x1024_S4x512x8x1024_0_2_1_3) shapeCasts_S4x512x8x1024_S16384x1024

def flatMods (M : FVec Ideal S2x8x6144 .f32) : FVec Ideal S16x1x6144 .f32 := shapeCast S16x1x6144 M shapeCasts_S2x8x6144_S16x1x6144
def flatBias (B : FVec Ideal S2x5632 .f32) : FVec Ideal S2x1x5632 .f32 := shapeCast S2x1x5632 B shapeCasts_S2x5632_S2x1x5632
def flatLast (w : FVec Ideal S1024 .f32) : FVec Ideal S1x1024 .f32 := shapeCast S1x1024 w shapeCasts_S1024_S1x1024

theorem packed_apply (x : FVec Ideal S4x4096x1024 .f32) (b : Fin 4) (p : Fin 512) (s : Fin 8) (d : Fin 1024) :
    packed x (ix2 (⟨b.val * 4096 + p.val * 8 + s.val, by omega⟩ : Fin 16384) d)
      = x (ix3 b (⟨s.val * 512 + p.val, by omega⟩ : Fin 4096) d) := by
  pointwise [packed]

theorem flatMods_apply (M : FVec Ideal S2x8x6144 .f32) (b : Fin 4) (j : Fin 6144) :
    flatMods M (ix3 (⟨8 + b.val, by omega⟩ : Fin 16) (0 : Fin 1) j) = M (ix3 (1 : Fin 2) (⟨b.val, by omega⟩ : Fin 8) j) := by
  pointwise [flatMods]
  refine congrArg M ?_
  funext a; apply Fin.ext; fin_cases a <;> simp <;> omega

theorem flatBias_apply (B : FVec Ideal S2x5632 .f32) (f : Fin 5632) :
    flatBias B (ix3 (1 : Fin 2) (0 : Fin 1) f) = B (ix2 (1 : Fin 2) f) := by
  pointwise [flatBias]

theorem flatLast_apply (w : FVec Ideal S1024 .f32) (d : Fin 1024) : flatLast w (ix2 (0 : Fin 1) d) = w (ix1 d) := by
  pointwise [flatLast]

/-! ## What the operations before the launch leave -/

variable (m : (ℓ : Loc nD τ sig) → Buf (Elt Ideal) ℓ)

def argX (c : Dev nD) : FVec Ideal S4x4096x1024 .f32 := m (c, Proc.tc.devRef main_arg0)
def argM (c : Dev nD) : FVec Ideal S2x8x6144 .f32 := m (c, Proc.tc.devRef main_arg1)
def argW (c : Dev nD) : FVec Ideal S2x1024x5632 .f32 := m (c, Proc.tc.devRef main_arg2)
def argC (c : Dev nD) : FVec Ideal S2x3x5632 .f32 := m (c, Proc.tc.devRef main_arg3)
def argB (c : Dev nD) : FVec Ideal S2x5632 .f32 := m (c, Proc.tc.devRef main_arg4)
def argD (c : Dev nD) : FVec Ideal S2x2816x1024 .f32 := m (c, Proc.tc.devRef main_arg5)
def argL (c : Dev nD) : FVec Ideal S1024 .f32 := m (c, Proc.tc.devRef main_arg6)

theorem left_x (c : Dev nD) : V m c main_v2 = packed (argX m c) := by
  unfold V
  after_reads_simp
  rfl
theorem left_mods (c : Dev nD) : V m c main_v3 = flatMods (argM m c) := by
  unfold V
  after_reads_simp
  rfl
theorem left_up (c : Dev nD) : V m c main_v4 = (argW m c : S2x1024x5632.Idx → EReal) := by
  unfold V
  after_reads_simp
  rfl
theorem left_down (c : Dev nD) : V m c main_v5 = (argD m c : S2x2816x1024.Idx → EReal) := by
  unfold V
  after_reads_simp
  rfl
theorem left_bias (c : Dev nD) : V m c main_v6 = flatBias (argB m c) := by
  unfold V
  after_reads_simp
  rfl
theorem left_last (c : Dev nD) : V m c main_v7 = flatLast (argL m c) := by
  unfold V
  after_reads_simp
  rfl

/-! ## Where a point's blocks lie -/

theorem at_0 : ∀ t : Fin cfg0.N, win0_0.index t (0 : Fin 2) = t.val ∧ win0_0.index t (1 : Fin 2) = 0 :=
  (by decide +kernel : ∀ t : Fin grid0.N, _)
theorem at_1 : ∀ t : Fin cfg0.N, win0_1.index t (0 : Fin 2) = t.val / 4 * 512 + (128 * (t.val % 4) + 511) % 512
    ∧ win0_1.index t (1 : Fin 2) = 0 :=
  (by decide +kernel : ∀ t : Fin grid0.N, _)
theorem at_2 : ∀ t : Fin cfg0.N, win0_2.index t (0 : Fin 2) = t.val / 4 * 512 + (128 * (t.val % 4) + 128) % 512
    ∧ win0_2.index t (1 : Fin 2) = 0 :=
  (by decide +kernel : ∀ t : Fin grid0.N, _)
theorem at_3 : ∀ t : Fin cfg0.N, win0_3.index t (0 : Fin 3) = 8 + t.val / 4 ∧ win0_3.index t (1 : Fin 3) = 0
    ∧ win0_3.index t (2 : Fin 3) = 1 :=
  (by decide +kernel : ∀ t : Fin grid0.N, _)
theorem at_4 : ∀ t : Fin cfg0.N, win0_4.index t (0 : Fin 3) = 1 ∧ win0_4.index t (1 : Fin 3) = 0
    ∧ win0_4.index t (2 : Fin 3) = 0 :=
  (by decide +kernel : ∀ t : Fin grid0.N, _)
theorem at_5 : ∀ t : Fin cfg0.N, win0_5.index t (0 : Fin 3) = 1 ∧ win0_5.index t (1 : Fin 3) = 0
    ∧ win0_5.index t (2 : Fin 3) = 0 :=
  (by decide +kernel : ∀ t : Fin grid0.N, _)
theorem at_6 : ∀ t : Fin cfg0.N, win0_6.index t (0 : Fin 3) = 1 ∧ win0_6.index t (1 : Fin 3) = 0
    ∧ win0_6.index t (2 : Fin 3) = 0 :=
  (by decide +kernel : ∀ t : Fin grid0.N, _)
theorem at_7 : ∀ t : Fin cfg0.N, win0_7.index t (0 : Fin 3) = 1 ∧ win0_7.index t (1 : Fin 3) = 0
    ∧ win0_7.index t (2 : Fin 3) = 0 :=
  (by decide +kernel : ∀ t : Fin grid0.N, _)
theorem at_8 : ∀ t : Fin cfg0.N, win0_8.index t (0 : Fin 2) = 0 ∧ win0_8.index t (1 : Fin 2) = 0 :=
  (by decide +kernel : ∀ t : Fin grid0.N, _)
theorem at_9 : ∀ t : Fin cfg0.N, win0_9.index t (0 : Fin 4) = t.val / 4 ∧ win0_9.index t (1 : Fin 4) = 0
    ∧ win0_9.index t (2 : Fin 4) = t.val % 4 ∧ win0_9.index t (3 : Fin 4) = 0 :=
  (by decide +kernel : ∀ t : Fin grid0.N, _)

/-- The batch entry of a point, and the tile in it. -/
def batchOf (t : Fin cfg0.N) : Fin 4 := ⟨t.val / 4, by have h : t.val < 16 := t.isLt; omega⟩
def tileOf (t : Fin cfg0.N) : Fin 4 := ⟨t.val % 4, by omega⟩

theorem blk_x (c : Dev nD) (t : Fin cfg0.N) (r : Fin 1024) (d : Fin 1024) :
    iblk m c 0 t (ix2 r d) = argX m c (ix3 (batchOf t)
      (⟨r.val % 8 * 512 + (128 * (tileOf t).val + r.val / 8), by have := (tileOf t).isLt; omega⟩ : Fin 4096) d) := by
  have ht : t.val < 16 := t.isLt
  rw [← packed_apply (argX m c) (batchOf t) (⟨128 * (tileOf t).val + r.val / 8, by have := (tileOf t).isLt; omega⟩ : Fin 512)
    (⟨r.val % 8, by omega⟩ : Fin 8) d]
  show V m c main_v2 (((cfg0.win 0).blk t).view.emb (ix2 r d)) = _
  rw [left_x]
  refine congrArg (packed _) ?_
  obtain ⟨e0, e1⟩ := at_0 t
  funext a; apply Fin.ext
  match a with
  | ⟨0, _⟩ =>
    show win0_0.index t (0 : Fin 2) * 1024 + 1 * r.val = t.val / 4 * 4096 + (128 * (t.val % 4) + r.val / 8) * 8 + r.val % 8
    omega
  | ⟨1, _⟩ => show win0_0.index t (1 : Fin 2) * 1024 + 1 * d.val = d.val; omega

theorem blk_prev (c : Dev nD) (t : Fin cfg0.N) (s : Fin 8) (d : Fin 1024) :
    iblk m c 1 t (ix2 s d) = argX m c (ix3 (batchOf t)
      (⟨s.val * 512 + (128 * (tileOf t).val + 511) % 512, by omega⟩ : Fin 4096) d) := by
  have ht : t.val < 16 := t.isLt
  rw [← packed_apply (argX m c) (batchOf t) (⟨(128 * (tileOf t).val + 511) % 512, by omega⟩ : Fin 512) s d]
  show V m c main_v2 (((cfg0.win 1).blk t).view.emb (ix2 s d)) = _
  rw [left_x]
  refine congrArg (packed _) ?_
  obtain ⟨e0, e1⟩ := at_1 t
  funext a; apply Fin.ext
  match a with
  | ⟨0, _⟩ =>
    show win0_1.index t (0 : Fin 2) * 8 + 1 * s.val = t.val / 4 * 4096 + (128 * (t.val % 4) + 511) % 512 * 8 + s.val
    omega
  | ⟨1, _⟩ => show win0_1.index t (1 : Fin 2) * 1024 + 1 * d.val = d.val; omega

theorem blk_next (c : Dev nD) (t : Fin cfg0.N) (s : Fin 8) (d : Fin 1024) :
    iblk m c 2 t (ix2 s d) = argX m c (ix3 (batchOf t)
      (⟨s.val * 512 + (128 * (tileOf t).val + 128) % 512, by omega⟩ : Fin 4096) d) := by
  have ht : t.val < 16 := t.isLt
  rw [← packed_apply (argX m c) (batchOf t) (⟨(128 * (tileOf t).val + 128) % 512, by omega⟩ : Fin 512) s d]
  show V m c main_v2 (((cfg0.win 2).blk t).view.emb (ix2 s d)) = _
  rw [left_x]
  refine congrArg (packed _) ?_
  obtain ⟨e0, e1⟩ := at_2 t
  funext a; apply Fin.ext
  match a with
  | ⟨0, _⟩ =>
    show win0_2.index t (0 : Fin 2) * 8 + 1 * s.val = t.val / 4 * 4096 + (128 * (t.val % 4) + 128) % 512 * 8 + s.val
    omega
  | ⟨1, _⟩ => show win0_2.index t (1 : Fin 2) * 1024 + 1 * d.val = d.val; omega

theorem blk_mods (c : Dev nD) (t : Fin cfg0.N) (j : Fin 3072) :
    iblk m c 3 t (ix3 (0 : Fin 1) (0 : Fin 1) j)
      = argM m c (ix3 (1 : Fin 2) (⟨(batchOf t).val, by have := (batchOf t).isLt; omega⟩ : Fin 8) (⟨3072 + j.val, by omega⟩ : Fin 6144)) := by
  rw [← flatMods_apply (argM m c) (batchOf t) (⟨3072 + j.val, by omega⟩ : Fin 6144)]
  show V m c main_v3 (((cfg0.win 3).blk t).view.emb (ix3 (0 : Fin 1) (0 : Fin 1) j)) = _
  rw [left_mods]
  refine congrArg (flatMods _) ?_
  obtain ⟨e0, e1, e2⟩ := at_3 t
  funext a; apply Fin.ext
  match a with
  | ⟨0, _⟩ => show win0_3.index t (0 : Fin 3) * 1 + 1 * 0 = 8 + t.val / 4; omega
  | ⟨1, _⟩ => show win0_3.index t (1 : Fin 3) * 1 + 1 * 0 = 0; omega
  | ⟨2, _⟩ => show win0_3.index t (2 : Fin 3) * 3072 + 1 * j.val = 3072 + j.val; omega

theorem blk_up (c : Dev nD) (t : Fin cfg0.N) (k : Fin 1024) (f : Fin 5632) :
    iblk m c 4 t (ix3 (0 : Fin 1) k f) = argW m c (ix3 (1 : Fin 2) k f) := by
  show V m c main_v4 (((cfg0.win 4).blk t).view.emb (ix3 (0 : Fin 1) k f)) = _
  rw [left_up]
  refine congrArg (argW m c) ?_
  obtain ⟨e0, e1, e2⟩ := at_4 t
  funext a; apply Fin.ext
  match a with
  | ⟨0, _⟩ => show win0_4.index t (0 : Fin 3) * 1 + 1 * 0 = 1; omega
  | ⟨1, _⟩ => show win0_4.index t (1 : Fin 3) * 1024 + 1 * k.val = k.val; omega
  | ⟨2, _⟩ => show win0_4.index t (2 : Fin 3) * 5632 + 1 * f.val = f.val; omega

theorem blk_conv (c : Dev nD) (t : Fin cfg0.N) (k : Fin 3) (f : Fin 5632) :
    iblk m c 5 t (ix3 (0 : Fin 1) k f) = argC m c (ix3 (1 : Fin 2) k f) := by
  show V m c main_arg3 (((cfg0.win 5).blk t).view.emb (ix3 (0 : Fin 1) k f)) = _
  rw [V_main_arg3]
  refine congrArg (argC m c) ?_
  obtain ⟨e0, e1, e2⟩ := at_5 t
  funext a; apply Fin.ext
  match a with
  | ⟨0, _⟩ => show win0_5.index t (0 : Fin 3) * 1 + 1 * 0 = 1; omega
  | ⟨1, _⟩ => show win0_5.index t (1 : Fin 3) * 3 + 1 * k.val = k.val; omega
  | ⟨2, _⟩ => show win0_5.index t (2 : Fin 3) * 5632 + 1 * f.val = f.val; omega

theorem blk_bias (c : Dev nD) (t : Fin cfg0.N) (f : Fin 5632) :
    iblk m c 6 t (ix3 (0 : Fin 1) (0 : Fin 1) f) = argB m c (ix2 (1 : Fin 2) f) := by
  rw [← flatBias_apply (argB m c) f]
  show V m c main_v6 (((cfg0.win 6).blk t).view.emb (ix3 (0 : Fin 1) (0 : Fin 1) f)) = _
  rw [left_bias]
  refine congrArg (flatBias _) ?_
  obtain ⟨e0, e1, e2⟩ := at_6 t
  funext a; apply Fin.ext
  match a with
  | ⟨0, _⟩ => show win0_6.index t (0 : Fin 3) * 1 + 1 * 0 = 1; omega
  | ⟨1, _⟩ => show win0_6.index t (1 : Fin 3) * 1 + 1 * 0 = 0; omega
  | ⟨2, _⟩ => show win0_6.index t (2 : Fin 3) * 5632 + 1 * f.val = f.val; omega

theorem blk_down (c : Dev nD) (t : Fin cfg0.N) (k : Fin 2816) (d : Fin 1024) :
    iblk m c 7 t (ix3 (0 : Fin 1) k d) = argD m c (ix3 (1 : Fin 2) k d) := by
  show V m c main_v5 (((cfg0.win 7).blk t).view.emb (ix3 (0 : Fin 1) k d)) = _
  rw [left_down]
  refine congrArg (argD m c) ?_
  obtain ⟨e0, e1, e2⟩ := at_7 t
  funext a; apply Fin.ext
  match a with
  | ⟨0, _⟩ => show win0_7.index t (0 : Fin 3) * 1 + 1 * 0 = 1; omega
  | ⟨1, _⟩ => show win0_7.index t (1 : Fin 3) * 2816 + 1 * k.val = k.val; omega
  | ⟨2, _⟩ => show win0_7.index t (2 : Fin 3) * 1024 + 1 * d.val = d.val; omega

theorem blk_last (c : Dev nD) (t : Fin cfg0.N) (d : Fin 1024) :
    iblk m c 8 t (ix2 (0 : Fin 1) d) = argL m c (ix1 d) := by
  rw [← flatLast_apply (argL m c) d]
  show V m c main_v7 (((cfg0.win 8).blk t).view.emb (ix2 (0 : Fin 1) d)) = _
  rw [left_last]
  refine congrArg (flatLast _) ?_
  obtain ⟨e0, e1⟩ := at_8 t
  funext a; apply Fin.ext
  match a with
  | ⟨0, _⟩ => show win0_8.index t (0 : Fin 2) * 1 + 1 * 0 = 0; omega
  | ⟨1, _⟩ => show win0_8.index t (1 : Fin 2) * 1024 + 1 * d.val = d.val; omega

end Cert.Ffn

end
-- ==== Proof.FfnRows.lean ====
/- The feed-forward call's row functions, over the extended reals: a modulated norm, a weighted norm, two gated units. -/
module

public import Idealize.ShloMosaic.Lib.Pointwise

@[expose] public section

noncomputable section

namespace Cert.Ffn

open Idealize.ShloMosaic
open scoped BigOperators

/-- One over the root of a row's mean square. -/
def scaleOf (x : Fin 1024 → EReal) : EReal :=
  Ideal.rsqrt (Ideal.div (∑ c : Fin 1024, x c * x c) (Ideal.ofBits .f32 0x44800000#32) + Ideal.ofBits .f32 0x358637BD#32)

/-- A row normed, scaled and shifted. -/
def normRow (x : Fin 1024 → EReal) (shift scale : Fin 1024 → EReal) (d : Fin 1024) : EReal :=
  x d * scaleOf x * (1 + scale d) + shift d

/-- A row normed and weighted. -/
def lastRow (o : Fin 1024 → EReal) (w : Fin 1024 → EReal) (d : Fin 1024) : EReal := o d * scaleOf o * w d

/-- The kernel's gated unit. -/
def gated (g v : EReal) : EReal :=
  (Ideal.ofBits .f32 0x3F000000#32 * g + Ideal.ofBits .f32 0x3F000000#32 * g * Ideal.tanh (Ideal.ofBits .f32 0x3F000000#32 * g)) * v

/-- The reference's gated unit. -/
def gatedRef (g v : EReal) : EReal := g * Ideal.div 1 (1 + Ideal.exp (-g)) * v

end Cert.Ffn

end
-- ==== Proof.FfnTerms.lean ====
/- The feed-forward call's stored blocks read at an index, over the extended reals. -/
module

public import proofs.«01_k».proof.Proof.Gen.Kernel2Ideal.Skeleton
public import proofs.«01_k».proof.Proof.FfnRows

@[expose] public section

noncomputable section

namespace Cert.Ffn

open Idealize.ShloMosaic Idealize.ShloMosaic.TcCoe Idealize.SL.Sem
open Cert.Kernel2Ideal Cert.Kernel2Ideal.Gen
open scoped BigOperators

/-! ## Rows through the up projection -/

/-- One column chunk of the up projection. -/
theorem up_apply (h : Vec Ideal S1056x1024 .bf16) (w : Vec Ideal S1x1024x256 .bf16) (z : Fin 1) (r : Fin 1056) (j : Fin 256) :
    k0_pay16 h w (ix3 z r j) = ∑ c : Fin 1024, h (ix2 r c) * w (ix3 (0 : Fin 1) c j) := by
  pointwise [k0_pay16]

/-! ## The gated activation of one column chunk -/

/-- One chunk of the activation from the rows above, at and below, and the convolution's weights. -/
def act (a0 : Vec Ideal S1x1x256 .f32) (u0 : Vec Ideal S1x1024x256 .f32) (a1 : Vec Ideal S1x1x256 .f32)
    (u1 : Vec Ideal S1x1024x256 .f32) (a2 : Vec Ideal S1x1x256 .f32) (u2 : Vec Ideal S1x1024x256 .f32)
    (b : Vec Ideal S1x1x256 .f32) (a0' : Vec Ideal S1x1x256 .f32) (u0' : Vec Ideal S1x1024x256 .f32)
    (a1' : Vec Ideal S1x1x256 .f32) (u1' : Vec Ideal S1x1024x256 .f32) (a2' : Vec Ideal S1x1x256 .f32)
    (u2' : Vec Ideal S1x1024x256 .f32) (b' : Vec Ideal S1x1x256 .f32) : FVec Ideal S1024x256 .bf16 :=
  k0_pay25 (k0_pay21 (k0_pay20 a0) u0 a1 u1 a2 u2 b) (k0_pay22 a0' u0') (k0_pay23 a1') (k0_pay24 u1') a2' u2' b'

theorem act_apply (a0 : Vec Ideal S1x1x256 .f32) (u0 : Vec Ideal S1x1024x256 .f32) (a1 : Vec Ideal S1x1x256 .f32)
    (u1 : Vec Ideal S1x1024x256 .f32) (a2 : Vec Ideal S1x1x256 .f32) (u2 : Vec Ideal S1x1024x256 .f32)
    (b : Vec Ideal S1x1x256 .f32) (a0' : Vec Ideal S1x1x256 .f32) (u0' : Vec Ideal S1x1024x256 .f32)
    (a1' : Vec Ideal S1x1x256 .f32) (u1' : Vec Ideal S1x1024x256 .f32) (a2' : Vec Ideal S1x1x256 .f32)
    (u2' : Vec Ideal S1x1024x256 .f32) (b' : Vec Ideal S1x1x256 .f32) (r : Fin 1024) (j : Fin 256) :
    act a0 u0 a1 u1 a2 u2 b a0' u0' a1' u1' a2' u2' b' (ix2 r j)
      = gated (a0 (ix3 0 0 j) * u0 (ix3 0 r j) + a1 (ix3 0 0 j) * u1 (ix3 0 r j) + a2 (ix3 0 0 j) * u2 (ix3 0 r j) + b (ix3 0 0 j))
        (a0' (ix3 0 0 j) * u0' (ix3 0 r j) + a1' (ix3 0 0 j) * u1' (ix3 0 r j) + a2' (ix3 0 0 j) * u2' (ix3 0 r j)
          + b' (ix3 0 0 j)) := by
  pointwise [act, k0_pay25, k0_pay21, k0_pay20, k0_pay22, k0_pay23, k0_pay24]
  rfl

/-! ## The last rows -/

theorem out_apply (g : Vec Ideal S1x1x1024 .f32) (x : Vec Ideal S1024x1024 .f32) (a : Vec Ideal S1024x2816 .bf16)
    (w : Vec Ideal S1x2816x1024 .bf16) (f : Vec Ideal S1x1024 .f32) (r : Fin 1024) (d : Fin 1024) :
    k0_pay86 (k0_pay6 g) (k0_pay7 x) a w f (ix2 r d)
      = lastRow (fun e => x (ix2 r e) + g (ix3 0 0 e) * ∑ k : Fin 2816, a (ix2 r k) * w (ix3 (0 : Fin 1) k e))
          (fun e => f (ix2 0 e)) d := by
  pointwise [k0_pay86, k0_pay6, k0_pay7]
  rfl

/-! ## The normed rows -/

/-- The tile's own rows. -/
theorem row_apply (sh sc : Vec Ideal S1x1x1024 .f32) (x : Vec Ideal S1024x1024 .f32) (r : Fin 1024) (d : Fin 1024) :
    k0_pay9 (k0_pay8 sh sc x) (ix2 r d)
      = normRow (fun e => x (ix2 r e)) (fun e => sh (ix3 0 0 e)) (fun e => sc (ix3 0 0 e)) d := by
  pointwise [k0_pay9, k0_pay8, k0_pay7, k0_pay5, k0_pay4]
  rfl

theorem select_eq_word {α : Type} {n : ℕ} (a b : BitVec n) (x y : α) :
    Scalar.select (IntOp.cmpi .eq a b) x y = if a = b then x else y := by
  rw [Scalar.select_def]
  exact if_congr IntOp.cmpi_eq rfl rfl

/-- The eight rows before the tile: at a sequence's start the last group, moved down by one under a row of zeros. -/
theorem prev_apply (q : BitVec 32) (sh sc : Vec Ideal S1x1x1024 .f32) (x : Vec Ideal S8x1024 .f32) (r : Fin 16) (hr : 8 ≤ r.val)
    (d : Fin 1024) :
    k0_pay14 (k0_pay10 q (k0_pay4 sh) (k0_pay5 sc) x) (ix2 r d)
      = if q = 0#32 then
          if r.val = 8 then 0
          else normRow (fun e => x (ix2 (⟨r.val - 9, by omega⟩ : Fin 8) e)) (fun e => sh (ix3 0 0 e)) (fun e => sc (ix3 0 0 e)) d
        else normRow (fun e => x (ix2 (⟨r.val - 8, by omega⟩ : Fin 8) e)) (fun e => sh (ix3 0 0 e)) (fun e => sc (ix3 0 0 e)) d := by
  pointwise [k0_pay14, k0_pay13, k0_pay10, k0_pay5, k0_pay4]
  rw [dif_neg (by omega)]
  refine (select_eq_word _ _ _ _).trans (if_congr Iff.rfl ?_ rfl)
  refine (select_eq_word _ _ _ _).trans ?_
  by_cases h : r.val = 8
  · exact (if_pos (by rw [h])).trans (if_pos h).symm
  · have hz : ¬ BitVec.ofNat 32 (r.val - 8) = 0#32 := fun e => by
      have := congrArg BitVec.toNat e
      simp only [BitVec.toNat_ofNat] at this
      omega
    refine (if_neg hz).trans (Eq.trans ?_ (if_neg h).symm)
    have e : (⟨(r.val - 8 + 8 - 1) % 8, by omega⟩ : Fin 8) = ⟨r.val - 9, by omega⟩ := Fin.ext (by simp only; omega)
    simp only [e]
    rfl

/-- The eight rows after the tile: at a sequence's end the first group, moved up by one over a row of zeros. -/
theorem next_apply (q : BitVec 32) (sh sc : Vec Ideal S1x1x1024 .f32) (x : Vec Ideal S8x1024 .f32) (r : Fin 16) (hr : r.val < 8)
    (d : Fin 1024) :
    k0_pay15 q (k0_pay4 sh) (k0_pay11 x) (k0_pay12 (k0_pay5 sc)) (ix2 r d)
      = if q = 3#32 then
          if r.val = 7 then 0
          else normRow (fun e => x (ix2 (⟨(r.val + 1) % 8, by omega⟩ : Fin 8) e)) (fun e => sh (ix3 0 0 e))
            (fun e => sc (ix3 0 0 e)) d
        else normRow (fun e => x (ix2 (⟨r.val, hr⟩ : Fin 8) e)) (fun e => sh (ix3 0 0 e)) (fun e => sc (ix3 0 0 e)) d := by
  pointwise [k0_pay15, k0_pay13, k0_pay12, k0_pay11, k0_pay5, k0_pay4]
  rw [dif_pos hr]
  refine (select_eq_word _ _ _ _).trans (if_congr Iff.rfl ?_ rfl)
  refine (select_eq_word _ _ _ _).trans ?_
  by_cases h : r.val = 7
  · exact (if_pos (by rw [h])).trans (if_pos h).symm
  · have hz : ¬ BitVec.ofNat 32 r.val = 7#32 := fun e => by
      have := congrArg BitVec.toNat e
      simp only [BitVec.toNat_ofNat] at this
      omega
    refine (if_neg hz).trans (Eq.trans ?_ (if_neg h).symm)
    have e : (⟨(r.val + 8 - 7) % 8, by omega⟩ : Fin 8) = ⟨(r.val + 1) % 8, by omega⟩ := Fin.ext (by simp only; omega)
    simp only [e]
    rfl

end Cert.Ffn

end
-- ==== Proof.FfnBuffers.lean ====
/- The feed-forward call's scratch buffers read back: what a load of them reads after the stores before it. -/
module

public import proofs.«01_k».proof.Proof.FfnTerms
public import proofs.«01_k».proof.Proof.Gen.Kernel2Ideal.Frame
public import Idealize.ShloMosaic.Lib.Pipeline.ReadBack

@[expose] public section

noncomputable section

namespace Cert.Ffn

open Idealize.ShloMosaic Idealize.ShloMosaic.TcCoe Idealize.SL.Sem
open Cert.Kernel2Ideal Cert.Kernel2Ideal.Gen
open scoped BigOperators

variable {sp : Space}

/-- A store that misses an index, under the stores before it. -/
theorem skip {s : Shape} {e : EltTy} (r : Rect s) (w : r.shape.Idx → Elt Ideal e) (L : List (View.Piece (Elt Ideal) s e)) (y : s.Idx)
    (h : y ∉ r.set) : View.canon (⟨r, w⟩ :: L) y = View.canon L y :=
  View.canon_cons_of_not_mem _ _ h

/-- A store at an index of its own. -/
theorem hit {s : Shape} {e : EltTy} (r : Rect s) (w : r.shape.Idx → Elt Ideal e) (L : List (View.Piece (Elt Ideal) s e)) (y : s.Idx)
    (x : r.shape.Idx) (h : y = r.emb x) : View.canon (⟨r, w⟩ :: L) y = w x := by
  rw [h]; exact View.canon_cons_emb _ _ _ _

/-! ## The normed rows -/

section Rows

variable (v : View sig .tc sp S1056x1024 .bf16) (A B : Vec Ideal S16x1024 .bf16) (C : Vec Ideal S1024x1024 .bf16)
  (hA : ∀ a, (![1040, 0] : Fin 2 → ℕ) a + S16x1024.size a ≤ S1056x1024.size a)
  (hB : ∀ a, (![0, 0] : Fin 2 → ℕ) a + S16x1024.size a ≤ S1056x1024.size a)
  (hC : ∀ a, (![16, 0] : Fin 2 → ℕ) a + S1024x1024.size a ≤ S1056x1024.size a)
  (hW : ∀ a, (![0, 0] : Fin 2 → ℕ) a + S1056x1024.size a ≤ S1056x1024.size a)

/-- The rows the three stores leave: sixteen before, the tile's, sixteen after. -/
def rowsOf (ρ : Fin 1056) (d : Fin 1024) : EReal :=
  if h : ρ.val < 16 then B (ix2 (⟨ρ.val, h⟩ : Fin 16) d)
  else if h' : ρ.val < 1040 then C (ix2 (⟨ρ.val - 16, by omega⟩ : Fin 1024) d)
  else A (ix2 (⟨ρ.val - 1040, by omega⟩ : Fin 16) d)

theorem rows_read (ρ : Fin 1056) (d : Fin 1024) :
    v.readCov (Val := Elt Ideal) [⟨Rect.unit (s := S1056x1024) ![1040, 0] S16x1024.size hA, A⟩,
        ⟨Rect.unit (s := S1056x1024) ![0, 0] S16x1024.size hB, B⟩, ⟨Rect.unit (s := S1056x1024) ![16, 0] S1024x1024.size hC, C⟩]
        (Rect.unit (s := S1056x1024) ![0, 0] S1056x1024.size hW).toLoadRect (ix2 ρ d)
      = rowsOf A B C ρ d := by
  have hρ := ρ.isLt
  rw [View.readCov_eq_canon']
  have e0 : (Rect.unit (s := S1056x1024) ![0, 0] S1056x1024.size hW).toLoadRect.idx (ix2 ρ d) = ix2 ρ d := by
    funext a; apply Fin.ext; fin_cases a <;> simp
  show View.canon (Val := Elt Ideal) _ ((Rect.unit (s := S1056x1024) ![0, 0] S1056x1024.size hW).toLoadRect.idx (ix2 ρ d)) = _
  rw [e0]
  unfold rowsOf
  by_cases h : ρ.val < 16
  · rw [dif_pos h]
    have offA : (ix2 ρ d : S1056x1024.Idx) ∉ (Rect.unit (s := S1056x1024) ![1040, 0] S16x1024.size hA).set := fun hm => by
      have h0 : 1040 ≤ ρ.val := ((Rect.mem_set_unit (inb := hA)).mp hm 0).1
      omega
    refine (skip _ _ _ _ offA).trans ?_
    have e : (ix2 ρ d : S1056x1024.Idx) = (Rect.unit (s := S1056x1024) ![0, 0] S16x1024.size hB).emb (ix2 (⟨ρ.val, h⟩ : Fin 16) d) := by
      funext a; apply Fin.ext; fin_cases a <;> simp
    exact hit _ _ _ _ _ e
  · rw [dif_neg h]
    by_cases h' : ρ.val < 1040
    · rw [dif_pos h']
      have offA : (ix2 ρ d : S1056x1024.Idx) ∉ (Rect.unit (s := S1056x1024) ![1040, 0] S16x1024.size hA).set := fun hm => by
        have h0 : 1040 ≤ ρ.val := ((Rect.mem_set_unit (inb := hA)).mp hm 0).1
        omega
      have offB : (ix2 ρ d : S1056x1024.Idx) ∉ (Rect.unit (s := S1056x1024) ![0, 0] S16x1024.size hB).set := fun hm => by
        have h0 : ρ.val < 0 + 16 := ((Rect.mem_set_unit (inb := hB)).mp hm 0).2
        omega
      refine (skip _ _ _ _ offA).trans ((skip _ _ _ _ offB).trans ?_)
      have e : (ix2 ρ d : S1056x1024.Idx)
          = (Rect.unit (s := S1056x1024) ![16, 0] S1024x1024.size hC).emb (ix2 (⟨ρ.val - 16, by omega⟩ : Fin 1024) d) := by
        funext a; apply Fin.ext; fin_cases a
        · show ρ.val = ((Rect.unit (s := S1056x1024) ![16, 0] S1024x1024.size hC).idx (ix2 _ d) 0).val
          simp; omega
        · show d.val = ((Rect.unit (s := S1056x1024) ![16, 0] S1024x1024.size hC).idx (ix2 _ d) 1).val
          simp
      exact hit _ _ _ _ _ e
    · rw [dif_neg h']
      have e : (ix2 ρ d : S1056x1024.Idx)
          = (Rect.unit (s := S1056x1024) ![1040, 0] S16x1024.size hA).emb (ix2 (⟨ρ.val - 1040, by omega⟩ : Fin 16) d) := by
        funext a; apply Fin.ext; fin_cases a
        · show ρ.val = ((Rect.unit (s := S1056x1024) ![1040, 0] S16x1024.size hA).idx (ix2 _ d) 0).val
          simp; omega
        · show d.val = ((Rect.unit (s := S1056x1024) ![1040, 0] S16x1024.size hA).idx (ix2 _ d) 1).val
          simp
      exact hit _ _ _ _ _ e

end Rows

/-! ## The up projection's two halves -/

section Halves

variable (v : View sig .tc sp S2x1056x256 .f32) (P1 P0 : Vec Ideal S1x1056x256 .f32)
  (L : List (View.Piece (Elt Ideal) S2x1056x256 .f32)) (o : ℕ)
  (h1 : ∀ a, (![1, 0, 0] : Fin 3 → ℕ) a + S1x1056x256.size a ≤ S2x1056x256.size a)
  (h0 : ∀ a, (![0, 0, 0] : Fin 3 → ℕ) a + S1x1056x256.size a ≤ S2x1056x256.size a)

theorem value_read (h : ∀ a, (![1, o, 0] : Fin 3 → ℕ) a + S1x1024x256.size a ≤ S2x1056x256.size a) (r : Fin 1024) (j : Fin 256)
    (hr : o + r.val < 1056) :
    v.readCov (⟨Rect.unit (s := S2x1056x256) ![1, 0, 0] S1x1056x256.size h1, P1⟩ :: ⟨Rect.unit (s := S2x1056x256) ![0, 0, 0] S1x1056x256.size h0, P0⟩ :: L)
        (Rect.unit (s := S2x1056x256) ![1, o, 0] S1x1024x256.size h).toLoadRect (ix3 (0 : Fin 1) r j)
      = P1 (ix3 (0 : Fin 1) (⟨o + r.val, hr⟩ : Fin 1056) j) := by
  rw [View.readCov_eq_canon']
  show View.canon _ ((Rect.unit (s := S2x1056x256) ![1, o, 0] S1x1024x256.size h).toLoadRect.idx (ix3 (0 : Fin 1) r j)) = _
  have e : (Rect.unit (s := S2x1056x256) ![1, o, 0] S1x1024x256.size h).toLoadRect.idx (ix3 (0 : Fin 1) r j)
      = (Rect.unit (s := S2x1056x256) ![1, 0, 0] S1x1056x256.size h1).emb (ix3 (0 : Fin 1) (⟨o + r.val, hr⟩ : Fin 1056) j) := by
    funext a; apply Fin.ext; fin_cases a <;> simp
  rw [e]
  exact View.canon_cons_emb _ _ _ _

theorem gate_read (h : ∀ a, (![0, o, 0] : Fin 3 → ℕ) a + S1x1024x256.size a ≤ S2x1056x256.size a) (r : Fin 1024) (j : Fin 256)
    (hr : o + r.val < 1056) :
    v.readCov (⟨Rect.unit (s := S2x1056x256) ![1, 0, 0] S1x1056x256.size h1, P1⟩ :: ⟨Rect.unit (s := S2x1056x256) ![0, 0, 0] S1x1056x256.size h0, P0⟩ :: L)
        (Rect.unit (s := S2x1056x256) ![0, o, 0] S1x1024x256.size h).toLoadRect (ix3 (0 : Fin 1) r j)
      = P0 (ix3 (0 : Fin 1) (⟨o + r.val, hr⟩ : Fin 1056) j) := by
  rw [View.readCov_eq_canon']
  show View.canon _ ((Rect.unit (s := S2x1056x256) ![0, o, 0] S1x1024x256.size h).toLoadRect.idx (ix3 (0 : Fin 1) r j)) = _
  have e : (Rect.unit (s := S2x1056x256) ![0, o, 0] S1x1024x256.size h).toLoadRect.idx (ix3 (0 : Fin 1) r j)
      = (Rect.unit (s := S2x1056x256) ![0, 0, 0] S1x1056x256.size h0).emb (ix3 (0 : Fin 1) (⟨o + r.val, hr⟩ : Fin 1056) j) := by
    funext a; apply Fin.ext; fin_cases a <;> simp
  rw [e, View.canon_cons_of_not_mem]
  · exact View.canon_cons_emb _ _ _ _
  · intro hm
    have h2 := ((Rect.mem_set_unit (inb := h1)).mp hm 0).1
    simp at h2

end Halves

/-! ## The convolution's weights -/

/-- A row's stretch of a one-row block, read at an index. -/
theorem ld_stretch {n m e : ℕ} (X : Vec Ideal (⟨3, ![1, n, m]⟩ : Shape) .f32) (k o : ℕ)
    (h : ∀ a, (![0, k, o] : Fin 3 → ℕ) a + (⟨3, ![1, 1, e]⟩ : Shape).size a ≤ (⟨3, ![1, n, m]⟩ : Shape).size a)
    (hk : k < n) (j : Fin e) (hj : o + j.val < m) :
    View.ld (Val := Elt Ideal) X (Rect.unit (s := (⟨3, ![1, n, m]⟩ : Shape)) ![0, k, o] (⟨3, ![1, 1, e]⟩ : Shape).size h) (ix3 (0 : Fin 1) (0 : Fin 1) j)
      = X (ix3 (0 : Fin 1) (⟨k, hk⟩ : Fin n) (⟨o + j.val, hj⟩ : Fin m)) := by
  refine congrArg X ?_
  funext a; apply Fin.ext; fin_cases a <;> simp

end Cert.Ffn

end
-- ==== Proof.FfnChunk.lean ====
/- One column chunk of the feed-forward call: from the normed rows to the gated activation. -/
module

public import proofs.«01_k».proof.Proof.FfnBuffers

@[expose] public section

noncomputable section

namespace Cert.Ffn

open Idealize.ShloMosaic Idealize.ShloMosaic.TcCoe Idealize.SL.Sem
open Cert.Kernel2Ideal Cert.Kernel2Ideal.Gen
open scoped BigOperators

variable {sp : Space}

/-- A row through the up projection. -/
def upAt (H : Vec Ideal S1056x1024 .bf16) (W : Vec Ideal S1x1024x5632 .bf16) (ρ : Fin 1056) (f : Fin 5632) : EReal :=
  ∑ c : Fin 1024, H (ix2 ρ c) * W (ix3 (0 : Fin 1) c f)

/-- The convolution over the group above, the row's own and the group below. -/
def convAt (H : Vec Ideal S1056x1024 .bf16) (W : Vec Ideal S1x1024x5632 .bf16) (C : Vec Ideal S1x3x5632 .f32)
    (B : Vec Ideal S1x1x5632 .f32) (r : Fin 1024) (f : Fin 5632) : EReal :=
  C (ix3 (0 : Fin 1) (0 : Fin 3) f) * upAt H W (⟨8 + r.val, by omega⟩ : Fin 1056) f
    + C (ix3 (0 : Fin 1) (1 : Fin 3) f) * upAt H W (⟨16 + r.val, by omega⟩ : Fin 1056) f
    + C (ix3 (0 : Fin 1) (2 : Fin 3) f) * upAt H W (⟨24 + r.val, by omega⟩ : Fin 1056) f
    + B (ix3 (0 : Fin 1) (0 : Fin 1) f)

/-- The gated activation. -/
def actAt (H : Vec Ideal S1056x1024 .bf16) (W : Vec Ideal S1x1024x5632 .bf16) (C : Vec Ideal S1x3x5632 .f32)
    (B : Vec Ideal S1x1x5632 .f32) (r : Fin 1024) (f : Fin 2816) : EReal :=
  gated (convAt H W C B r (⟨f.val, by omega⟩ : Fin 5632)) (convAt H W C B r (⟨2816 + f.val, by omega⟩ : Fin 5632))

theorem inb_up (o : ℕ) (h : o + 256 ≤ 5632) : ∀ a, (![0, 0, o] : Fin 3 → ℕ) a + S1x1024x256.size a ≤ S1x1024x5632.size a := by
  intro a; fin_cases a <;> simp [h]
theorem inb_conv (k o : ℕ) (hk : k + 1 ≤ 3) (h : o + 256 ≤ 5632) :
    ∀ a, (![0, k, o] : Fin 3 → ℕ) a + S1x1x256.size a ≤ S1x3x5632.size a := by
  intro a; fin_cases a <;> simp [h, hk]
theorem inb_bias (o : ℕ) (h : o + 256 ≤ 5632) : ∀ a, (![0, 0, o] : Fin 3 → ℕ) a + S1x1x256.size a ≤ S1x1x5632.size a := by
  intro a; fin_cases a <;> simp [h]
theorem inb_half (k : ℕ) (hk : k + 1 ≤ 2) : ∀ a, (![k, 0, 0] : Fin 3 → ℕ) a + S1x1056x256.size a ≤ S2x1056x256.size a := by
  intro a; fin_cases a <;> simp [hk]
theorem inb_group (k o : ℕ) (hk : k + 1 ≤ 2) (h : o + 1024 ≤ 1056) :
    ∀ a, (![k, o, 0] : Fin 3 → ℕ) a + S1x1024x256.size a ≤ S2x1056x256.size a := by
  intro a; fin_cases a <;> simp [h, hk]
theorem inb_act (o : ℕ) (h : o + 256 ≤ 2816) : ∀ a, (![0, o] : Fin 2 → ℕ) a + S1024x256.size a ≤ S1024x2816.size a := by
  intro a; fin_cases a <;> simp [h]

section Chunk

variable {sW sC sB : Space} (v : View sig .tc sp S2x1056x256 .f32) (H : Vec Ideal S1056x1024 .bf16)
  (vW : View sig .tc sW S1x1024x5632 .bf16) (fW : vW.ty.Contents (Elt Ideal))
  (vC : View sig .tc sC S1x3x5632 .f32) (fC : vC.ty.Contents (Elt Ideal))
  (vB : View sig .tc sB S1x1x5632 .f32) (fB : vB.ty.Contents (Elt Ideal))

/-- A row of the convolution's weights, and of its bias, from an offset on. -/
def taps (k : ℕ) (hk : k + 1 ≤ 3) (o : ℕ) (ho : o + 256 ≤ 5632) : Vec Ideal S1x1x256 .f32 :=
  View.readAt (Elt Ideal) vC (Rect.unit (s := S1x3x5632) ![0, k, o] S1x1x256.size (inb_conv k o hk ho)).toLoadRect fC

def bias (o : ℕ) (ho : o + 256 ≤ 5632) : Vec Ideal S1x1x256 .f32 :=
  View.readAt (Elt Ideal) vB (Rect.unit (s := S1x1x5632) ![0, 0, o] S1x1x256.size (inb_bias o ho)).toLoadRect fB

theorem taps_apply (k : ℕ) (hk : k + 1 ≤ 3) (o : ℕ) (ho : o + 256 ≤ 5632) (j : Fin 256) :
    taps vC fC k hk o ho (ix3 0 0 j) = vC.read (Elt Ideal) fC (ix3 (0 : Fin 1) (⟨k, by omega⟩ : Fin 3) (⟨o + j.val, by omega⟩ : Fin 5632)) := by
  refine congrArg (vC.read (Elt Ideal) fC) ?_
  funext a; apply Fin.ext; fin_cases a <;> simp

theorem bias_apply (o : ℕ) (ho : o + 256 ≤ 5632) (j : Fin 256) :
    bias vB fB o ho (ix3 0 0 j) = vB.read (Elt Ideal) fB (ix3 (0 : Fin 1) (0 : Fin 1) (⟨o + j.val, by omega⟩ : Fin 5632)) := by
  refine congrArg (vB.read (Elt Ideal) fB) ?_
  funext a; apply Fin.ext; fin_cases a <;> simp

variable (L : List (View.Piece (Elt Ideal) S2x1056x256 .f32)) (o : ℕ) (ho : o + 256 ≤ 2816)

/-- The buffer after a chunk's two stores. -/
abbrev halves : List (View.Piece (Elt Ideal) S2x1056x256 .f32) :=
  ⟨Rect.unit (s := S2x1056x256) ![1, 0, 0] S1x1056x256.size (inb_half 1 (by omega)),
    k0_pay16 H (View.readAt (Elt Ideal) vW (Rect.unit (s := S1x1024x5632) ![0, 0, 2816 + o] S1x1024x256.size
      (inb_up (2816 + o) (by omega))).toLoadRect fW)⟩
  :: ⟨Rect.unit (s := S2x1056x256) ![0, 0, 0] S1x1056x256.size (inb_half 0 (by omega)),
    k0_pay16 H (View.readAt (Elt Ideal) vW (Rect.unit (s := S1x1024x5632) ![0, 0, o] S1x1024x256.size
      (inb_up o (by omega))).toLoadRect fW)⟩ :: L

/-- A half's rows from an offset on. -/
def group (k : ℕ) (hk : k + 1 ≤ 2) (p : ℕ) (hp : p + 1024 ≤ 1056) : Vec Ideal S1x1024x256 .f32 :=
  v.readCov (halves H vW fW L o ho) (Rect.unit (s := S2x1056x256) ![k, p, 0] S1x1024x256.size (inb_group k p hk hp)).toLoadRect

/-- The chunk's activation. -/
def chunkAct : FVec Ideal S1024x256 .bf16 :=
  act (taps vC fC 0 (by omega) o (by omega)) (group v H vW fW L o ho 0 (by omega) 8 (by omega))
    (taps vC fC 1 (by omega) o (by omega)) (group v H vW fW L o ho 0 (by omega) 16 (by omega))
    (taps vC fC 2 (by omega) o (by omega)) (group v H vW fW L o ho 0 (by omega) 24 (by omega)) (bias vB fB o (by omega))
    (taps vC fC 0 (by omega) (2816 + o) (by omega)) (group v H vW fW L o ho 1 (by omega) 8 (by omega))
    (taps vC fC 1 (by omega) (2816 + o) (by omega)) (group v H vW fW L o ho 1 (by omega) 16 (by omega))
    (taps vC fC 2 (by omega) (2816 + o) (by omega)) (group v H vW fW L o ho 1 (by omega) 24 (by omega))
    (bias vB fB (2816 + o) (by omega))

theorem gate_apply (p : ℕ) (hp : p + 1024 ≤ 1056) (r : Fin 1024) (j : Fin 256) :
    group v H vW fW L o ho 0 (by omega) p hp (ix3 (0 : Fin 1) r j)
      = upAt H (vW.read (Elt Ideal) fW) (⟨p + r.val, by omega⟩ : Fin 1056) (⟨o + j.val, by omega⟩ : Fin 5632) := by
  unfold group
  refine (gate_read v _ _ L p _ _ _ r j (by omega)).trans ((up_apply _ _ _ _ _).trans ?_)
  refine Finset.sum_congr rfl fun c _ => congrArg (H (ix2 _ c) * ·) (congrArg (vW.read (Elt Ideal) fW) ?_)
  funext a; apply Fin.ext; fin_cases a <;> simp

theorem value_apply (p : ℕ) (hp : p + 1024 ≤ 1056) (r : Fin 1024) (j : Fin 256) :
    group v H vW fW L o ho 1 (by omega) p hp (ix3 (0 : Fin 1) r j)
      = upAt H (vW.read (Elt Ideal) fW) (⟨p + r.val, by omega⟩ : Fin 1056) (⟨2816 + (o + j.val), by omega⟩ : Fin 5632) := by
  unfold group
  refine (value_read v _ _ L p _ _ _ r j (by omega)).trans ((up_apply _ _ _ _ _).trans ?_)
  refine Finset.sum_congr rfl fun c _ => congrArg (H (ix2 _ c) * ·) (congrArg (vW.read (Elt Ideal) fW) ?_)
  funext a; apply Fin.ext; fin_cases a <;> simp <;> omega

theorem chunkAct_apply (r : Fin 1024) (j : Fin 256) :
    chunkAct v H vW fW vC fC vB fB L o ho (ix2 r j)
      = actAt H (vW.read (Elt Ideal) fW) (vC.read (Elt Ideal) fC) (vB.read (Elt Ideal) fB) r (⟨o + j.val, by omega⟩ : Fin 2816) := by
  have assoc : (⟨2816 + o + j.val, by omega⟩ : Fin 5632) = ⟨2816 + (o + j.val), by omega⟩ := Fin.ext (Nat.add_assoc ..)
  have sum {a a' b b' c c' d d' e e' f f' g g' : EReal} (h1 : a = a') (h2 : b = b') (h3 : c = c') (h4 : d = d') (h5 : e = e')
      (h6 : f = f') (h7 : g = g') : a * b + c * d + e * f + g = a' * b' + c' * d' + e' * f' + g' := by
    rw [h1, h2, h3, h4, h5, h6, h7]
  have taps' (k : ℕ) (hk : k + 1 ≤ 3) := (taps_apply vC fC k hk (2816 + o) (by omega) j).trans
    (congrArg (fun f => vC.read (Elt Ideal) fC (ix3 (0 : Fin 1) (⟨k, by omega⟩ : Fin 3) f)) assoc)
  have bias' := (bias_apply vB fB (2816 + o) (by omega) j).trans
    (congrArg (fun f => vB.read (Elt Ideal) fB (ix3 (0 : Fin 1) (0 : Fin 1) f)) assoc)
  refine (act_apply _ _ _ _ _ _ _ _ _ _ _ _ _ _ r j).trans (congrArg₂ gated ?_ ?_)
  · exact sum (taps_apply vC fC 0 _ o _ j) (gate_apply v H vW fW L o ho 8 _ r j) (taps_apply vC fC 1 _ o _ j)
      (gate_apply v H vW fW L o ho 16 _ r j) (taps_apply vC fC 2 _ o _ j) (gate_apply v H vW fW L o ho 24 _ r j)
      (bias_apply vB fB o _ j)
  · exact sum (taps' 0 _) (value_apply v H vW fW L o ho 8 _ r j) (taps' 1 _)
      (value_apply v H vW fW L o ho 16 _ r j) (taps' 2 _) (value_apply v H vW fW L o ho 24 _ r j) bias'

/-- The chunk is a block of the whole activation. -/
theorem chunk_piece (x : S1024x256.Idx) :
    chunkAct v H vW fW vC fC vB fB L o ho x
      = (fun y : S1024x2816.Idx => actAt H (vW.read (Elt Ideal) fW) (vC.read (Elt Ideal) fC) (vB.read (Elt Ideal) fB) (y 0) (y 1))
          ((Rect.unit (s := S1024x2816) ![0, o] S1024x256.size (inb_act o ho)).emb x) := by
  have main (r : Fin 1024) (j : Fin 256) : chunkAct v H vW fW vC fC vB fB L o ho (ix2 r j)
      = (fun y : S1024x2816.Idx => actAt H (vW.read (Elt Ideal) fW) (vC.read (Elt Ideal) fC) (vB.read (Elt Ideal) fB) (y 0) (y 1))
          ((Rect.unit (s := S1024x2816) ![0, o] S1024x256.size (inb_act o ho)).emb (ix2 r j)) := by
    have e : (Rect.unit (s := S1024x2816) ![0, o] S1024x256.size (inb_act o ho)).emb (ix2 r j)
        = ix2 r (⟨o + j.val, by omega⟩ : Fin 2816) := by
      funext a; apply Fin.ext; fin_cases a <;> simp
    rw [e]
    exact chunkAct_apply v H vW fW vC fC vB fB L o ho r j
  have ex : x = ix2 (x 0) (x 1) := by funext a; fin_cases a <;> rfl
  rw [ex]
  exact main (x 0) (x 1)

end Chunk

end Cert.Ffn

end
-- ==== Proof.FfnActs.lean ====
/- One point of the feed-forward call: the normed rows and the activation it stores, in terms of the blocks it reads. -/
module

public import proofs.«01_k».proof.Proof.FfnChunk

@[expose] public section

set_option maxRecDepth 16384

noncomputable section

namespace Cert.Ffn

open Idealize.ShloMosaic Idealize.ShloMosaic.TcCoe Idealize.ShloMosaic.Tactic Idealize.SL.Sem
open Cert.Kernel2Ideal Cert.Kernel2Ideal.Gen
open scoped BigOperators

/-- The stretch of the modulation block from a column on. -/
theorem inb_mods (o : ℕ) (h : o + 1024 ≤ 3072) : ∀ a, (![0, 0, o] : Fin 3 → ℕ) a + S1x1x1024.size a ≤ S1x1x3072.size a := by
  intro a; fin_cases a <;> simp [h]
abbrev modsFrom (x3 : Vec Ideal S1x1x3072 .f32) (o : ℕ) (h : o + 1024 ≤ 3072) : Vec Ideal S1x1x1024 .f32 :=
  View.ld (Val := Elt Ideal) x3 (Rect.unit (s := S1x1x3072) ![0, 0, o] S1x1x1024.size (inb_mods o h))

/-- The normed rows of a point: sixteen around the tile on either side. -/
def rows (q : BitVec 32) (x0 : Vec Ideal S1024x1024 .f32) (x1 x2 : Vec Ideal S8x1024 .f32) (x3 : Vec Ideal S1x1x3072 .f32) :
    Vec Ideal S1056x1024 .bf16 := fun y =>
  rowsOf (k0_pay15 q (k0_pay4 (modsFrom x3 0 (by omega))) (k0_pay11 x2) (k0_pay12 (k0_pay5 (modsFrom x3 1024 (by omega)))))
    (k0_pay14 (k0_pay10 q (k0_pay4 (modsFrom x3 0 (by omega))) (k0_pay5 (modsFrom x3 1024 (by omega))) x1))
    (k0_pay9 (k0_pay8 (modsFrom x3 0 (by omega)) (modsFrom x3 1024 (by omega)) x0)) (y 0) (y 1)

theorem rows_word (c : Dev nD) (i : grid0.Coords) (arg1 : Memref sig .tc .vmem S1024x1024 .f32) (harg1 : arg1.IsWhole) (arg2 :
    Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg11 : Memref sig .tc .vmem S1056x1024
    .bf16) (x0 : Vec Ideal S1024x1024 .f32) (x1 : Vec Ideal S8x1024 .f32) (x2 : Vec Ideal S8x1024 .f32) (x3 : Vec Ideal
    S1x1x3072 .f32) :
  kernelRun0_A.sl.v102 (F := Ideal) c i arg1 harg1 arg2 harg2 arg3 harg3 arg4 harg4 arg11 x0 x1 x2 x3
      = rows (kernelRun0_A.sl.v9 i) x0 x1 x2 x3 := by
  funext y
  have ey : y = ix2 (y 0) (y 1) := by funext a; fin_cases a <;> rfl
  unfold kernelRun0_A.sl.v102 kernelRun0_A.sl.HS0_3 kernelRun0_A.sl.r_8 kernelRun0_A.sl.r_7 kernelRun0_A.sl.r_6 kernelRun0_A.sl.r_4
    kernelRun0_A.sl.r_1 kernelRun0_A.sl.r
  refine (congrArg _ ey).trans ?_
  refine (rows_read arg11.view _ _ _ _ _ _ _ (y 0) (y 1)).trans ?_
  simp only [View.readAt_eq_ld, Memref.IsWhole.read_unread]
  rw [View.ld_unit_lit (S := S1024x1024), View.ld_unit_lit (S := S8x1024), View.ld_unit_lit (S := S8x1024)]
  · rfl
  all_goals (intro a; fin_cases a <;> rfl)

set_option maxHeartbeats 8000000 in
/-- Each chunk stores the activation of its own columns. -/
theorem acts_pieces (c : Dev nD) (i : grid0.Coords) (arg1 : Memref sig .tc .vmem S1024x1024 .f32) (harg1 : arg1.IsWhole) (arg2
    : Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg5 : Memref sig .tc .vmem
    S1x1024x5632 .bf16) (harg5 : arg5.IsWhole) (arg6 : Memref sig .tc .vmem S1x3x5632 .f32) (harg6 : arg6.IsWhole) (arg7 :
    Memref sig .tc .vmem S1x1x5632 .f32) (harg7 : arg7.IsWhole) (arg11 : Memref sig .tc .vmem S1056x1024 .bf16) (arg13 :
    Memref sig .tc .vmem S2x1056x256 .f32) (arg14 : Memref sig .tc .vmem S2x1056x256 .f32) (x0 : Vec Ideal S1024x1024 .f32)
    (x1 : Vec Ideal S8x1024 .f32) (x2 : Vec Ideal S8x1024 .f32) (x3 : Vec Ideal S1x1x3072 .f32) (x4 : Vec Ideal S1x1024x5632
    .bf16) (x5 : Vec Ideal S1x3x5632 .f32) (x6 : Vec Ideal S1x1x5632 .f32) :
  View.PiecesOf (Val := Elt Ideal) (e := .bf16) (fun y : S1024x2816.Idx => actAt (kernelRun0_A.sl.v102 (F := Ideal) c i arg1 harg1 arg2 harg2 arg3 harg3 arg4 harg4 arg11 x0 x1 x2 x3)
    (arg5.view.read (Elt Ideal) (harg5.unread x4)) (arg6.view.read (Elt Ideal) (harg6.unread x5))
    (arg7.view.read (Elt Ideal) (harg7.unread x6)) (y 0) (y 1))
    (kernelRun0_A.sl.HS1_11 (F := Ideal) c i arg1 harg1 arg2 harg2 arg3 harg3 arg4 harg4 arg5 harg5 arg6 harg6 arg7 harg7 arg11 arg13 arg14 x0 x1 x2 x3 x4 x5 x6) := by
  unfold kernelRun0_A.sl.HS1_11
  refine ⟨?_, ?_, ?_, ?_, ?_, ?_, ?_, ?_, ?_, ?_, ?_, trivial⟩
  · exact fun x => (congrFun (rfl : _ = chunkAct arg13.view _ arg5.view (harg5.unread x4) arg6.view (harg6.unread x5) arg7.view
        (harg7.unread x6) _ 2560 (by omega)) x).trans (chunk_piece _ _ _ _ _ _ _ _ _ _ _ x)
  · exact fun x => (congrFun (rfl : _ = chunkAct arg14.view _ arg5.view (harg5.unread x4) arg6.view (harg6.unread x5) arg7.view
        (harg7.unread x6) _ 2304 (by omega)) x).trans (chunk_piece _ _ _ _ _ _ _ _ _ _ _ x)
  · exact fun x => (congrFun (rfl : _ = chunkAct arg13.view _ arg5.view (harg5.unread x4) arg6.view (harg6.unread x5) arg7.view
        (harg7.unread x6) _ 2048 (by omega)) x).trans (chunk_piece _ _ _ _ _ _ _ _ _ _ _ x)
  · exact fun x => (congrFun (rfl : _ = chunkAct arg14.view _ arg5.view (harg5.unread x4) arg6.view (harg6.unread x5) arg7.view
        (harg7.unread x6) _ 1792 (by omega)) x).trans (chunk_piece _ _ _ _ _ _ _ _ _ _ _ x)
  · exact fun x => (congrFun (rfl : _ = chunkAct arg13.view _ arg5.view (harg5.unread x4) arg6.view (harg6.unread x5) arg7.view
        (harg7.unread x6) _ 1536 (by omega)) x).trans (chunk_piece _ _ _ _ _ _ _ _ _ _ _ x)
  · exact fun x => (congrFun (rfl : _ = chunkAct arg14.view _ arg5.view (harg5.unread x4) arg6.view (harg6.unread x5) arg7.view
        (harg7.unread x6) _ 1280 (by omega)) x).trans (chunk_piece _ _ _ _ _ _ _ _ _ _ _ x)
  · exact fun x => (congrFun (rfl : _ = chunkAct arg13.view _ arg5.view (harg5.unread x4) arg6.view (harg6.unread x5) arg7.view
        (harg7.unread x6) _ 1024 (by omega)) x).trans (chunk_piece _ _ _ _ _ _ _ _ _ _ _ x)
  · exact fun x => (congrFun (rfl : _ = chunkAct arg14.view _ arg5.view (harg5.unread x4) arg6.view (harg6.unread x5) arg7.view
        (harg7.unread x6) _ 768 (by omega)) x).trans (chunk_piece _ _ _ _ _ _ _ _ _ _ _ x)
  · exact fun x => (congrFun (rfl : _ = chunkAct arg13.view _ arg5.view (harg5.unread x4) arg6.view (harg6.unread x5) arg7.view
        (harg7.unread x6) _ 512 (by omega)) x).trans (chunk_piece _ _ _ _ _ _ _ _ _ _ _ x)
  · exact fun x => (congrFun (rfl : _ = chunkAct arg14.view _ arg5.view (harg5.unread x4) arg6.view (harg6.unread x5) arg7.view
        (harg7.unread x6) _ 256 (by omega)) x).trans (chunk_piece _ _ _ _ _ _ _ _ _ _ _ x)
  · exact fun x => (congrFun (rfl : _ = chunkAct arg13.view _ arg5.view (harg5.unread x4) arg6.view (harg6.unread x5) arg7.view
        (harg7.unread x6) _ 0 (by omega)) x).trans (chunk_piece _ _ _ _ _ _ _ _ _ _ _ x)

/-- The activation the eleven chunks leave. -/
theorem acts_word (c : Dev nD) (i : grid0.Coords) (arg1 : Memref sig .tc .vmem S1024x1024 .f32) (harg1 : arg1.IsWhole) (arg2 :
    Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg5 : Memref sig .tc .vmem
    S1x1024x5632 .bf16) (harg5 : arg5.IsWhole) (arg6 : Memref sig .tc .vmem S1x3x5632 .f32) (harg6 : arg6.IsWhole) (arg7 :
    Memref sig .tc .vmem S1x1x5632 .f32) (harg7 : arg7.IsWhole) (arg11 : Memref sig .tc .vmem S1056x1024 .bf16) (arg12 :
    Memref sig .tc .vmem S1024x2816 .bf16) (arg13 : Memref sig .tc .vmem S2x1056x256 .f32) (arg14 : Memref sig .tc .vmem
    S2x1056x256 .f32) (x0 : Vec Ideal S1024x1024 .f32) (x1 : Vec Ideal S8x1024 .f32) (x2 : Vec Ideal S8x1024 .f32) (x3 : Vec
    Ideal S1x1x3072 .f32) (x4 : Vec Ideal S1x1024x5632 .bf16) (x5 : Vec Ideal S1x3x5632 .f32) (x6 : Vec Ideal S1x1x5632 .f32)
    (y : S1024x2816.Idx) :
  kernelRun0_A.sl.v1058 (F := Ideal) c i arg1 harg1 arg2 harg2 arg3 harg3 arg4 harg4 arg5 harg5 arg6 harg6 arg7 harg7 arg11
    arg12 arg13 arg14 x0 x1 x2 x3 x4 x5 x6 y
      = actAt (rows (kernelRun0_A.sl.v9 i) x0 x1 x2 x3) x4 x5 x6 (y 0) (y 1) := by
  have hv := rows_word c i arg1 harg1 arg2 harg2 arg3 harg3 arg4 harg4 arg11 x0 x1 x2 x3
  have hp := acts_pieces c i arg1 harg1 arg2 harg2 arg3 harg3 arg4 harg4 arg5 harg5 arg6 harg6 arg7 harg7 arg11 arg13 arg14 x0 x1 x2 x3 x4 x5 x6
  rw [hv, harg5.read_unread, harg6.read_unread, harg7.read_unread] at hp
  unfold kernelRun0_A.sl.v1058
  rw [View.readCov_eq_canon']
  have e0 : (Rect.unit (s := S1024x2816) ![0, 0] S1024x2816.size inb_S1024x2816_S1024x2816_0_0).toLoadRect.idx y = y := by
    funext a; apply Fin.ext; fin_cases a <;> simp
  refine (congrArg _ e0).trans ?_
  exact View.canon_apply_of_pieces _ _ (View.PiecesOf.mem hp) y
    (View.cover_of_tiledL (s := S1024x2816) _ S1024x256.size (by sl_kernel_rfl) y)

end Cert.Ffn

end
-- ==== Proof.FfnLast.lean ====
/- One point of the feed-forward call: its last rows, in eight column slabs, stored group by group. -/
module

public import proofs.«01_k».proof.Proof.FfnActs

@[expose] public section

set_option maxRecDepth 16384

noncomputable section

namespace Cert.Ffn

open Idealize.ShloMosaic Idealize.ShloMosaic.TcCoe Idealize.ShloMosaic.Tactic Idealize.SL.Sem
open Cert.Kernel2Ideal Cert.Kernel2Ideal.Gen
open scoped BigOperators

/-- The last rows of a point. -/
def lastAt (A : Vec Ideal S1024x2816 .bf16) (x0 : Vec Ideal S1024x1024 .f32) (x3 : Vec Ideal S1x1x3072 .f32)
    (x7 : Vec Ideal S1x2816x1024 .bf16) (x8 : Vec Ideal S1x1024 .f32) (r : Fin 1024) (d : Fin 1024) : EReal :=
  lastRow (fun e => x0 (ix2 r e) + modsFrom x3 2048 (by omega) (ix3 0 0 e) * ∑ k : Fin 2816, A (ix2 r k) * x7 (ix3 (0 : Fin 1) k e))
    (fun e => x8 (ix2 0 e)) d

theorem last_word (c : Dev nD) (i : grid0.Coords) (arg1 : Memref sig .tc .vmem S1024x1024 .f32) (harg1 : arg1.IsWhole) (arg2 :
    Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg5 : Memref sig .tc .vmem
    S1x1024x5632 .bf16) (harg5 : arg5.IsWhole) (arg6 : Memref sig .tc .vmem S1x3x5632 .f32) (harg6 : arg6.IsWhole) (arg7 :
    Memref sig .tc .vmem S1x1x5632 .f32) (harg7 : arg7.IsWhole) (arg8 : Memref sig .tc .vmem S1x2816x1024 .bf16) (harg8 :
    arg8.IsWhole) (arg9 : Memref sig .tc .vmem S1x1024 .f32) (harg9 : arg9.IsWhole) (arg11 : Memref sig .tc .vmem S1056x1024
    .bf16) (arg12 : Memref sig .tc .vmem S1024x2816 .bf16) (arg13 : Memref sig .tc .vmem S2x1056x256 .f32) (arg14 : Memref sig
    .tc .vmem S2x1056x256 .f32) (x0 : Vec Ideal S1024x1024 .f32) (x1 : Vec Ideal S8x1024 .f32) (x2 : Vec Ideal S8x1024 .f32)
    (x3 : Vec Ideal S1x1x3072 .f32) (x4 : Vec Ideal S1x1024x5632 .bf16) (x5 : Vec Ideal S1x3x5632 .f32) (x6 : Vec Ideal
    S1x1x5632 .f32) (x7 : Vec Ideal S1x2816x1024 .bf16) (x8 : Vec Ideal S1x1024 .f32) (r d : Fin 1024) :
  kernelRun0_A.sl.r_47 (F := Ideal) c i arg1 harg1 arg2 harg2 arg3 harg3 arg4 harg4 arg5 harg5 arg6 harg6 arg7 harg7 arg8
    harg8 arg9 harg9 arg11 arg12 arg13 arg14 x0 x1 x2 x3 x4 x5 x6 x7 x8 (ix2 r d)
      = lastAt (kernelRun0_A.sl.v1058 (F := Ideal) c i arg1 harg1 arg2 harg2 arg3 harg3 arg4 harg4 arg5 harg5 arg6 harg6 arg7 harg7 arg11
        arg12 arg13 arg14 x0 x1 x2 x3 x4 x5 x6) x0 x3 x7 x8 r d := by
  unfold kernelRun0_A.sl.r_47 kernelRun0_A.sl.r_2 kernelRun0_A.sl.r_3
  refine (out_apply _ _ _ _ _ r d).trans ?_
  simp only [View.readAt_eq_ld, Memref.IsWhole.read_unread]
  rw [View.ld_unit_lit (S := S1024x1024), View.ld_unit_lit (S := S1x2816x1024), View.ld_unit_lit (S := S1x1024)]
  · rfl
  all_goals (intro a; fin_cases a <;> rfl)

theorem inb_slab (k : ℕ) (hk : k + 1 ≤ 8) : ∀ a, (![k, 0, 0] : Fin 3 → ℕ) a + S1x1024x128.size a ≤ S8x1024x128.size a := by
  intro a; fin_cases a <;> simp [hk]

/-- A slab of the rows. -/
def slab (R : FVec Ideal S1024x1024 .f32) (k : ℕ) (hk : k + 1 ≤ 8) : FVec Ideal S1x1024x128 .f32 := fun x =>
  R (ix2 (x 1) (⟨128 * k + (x 2).val, by have h : (x 2).val < 128 := (x 2).isLt; omega⟩ : Fin 1024))

/-- The rows as eight slabs. -/
def laid (R : FVec Ideal S1024x1024 .f32) : Vec Ideal S8x1024x128 .f32 := fun y =>
  R (ix2 (y 1) (⟨128 * (y 0).val + (y 2).val, by
    have h0 : (y 0).val < 8 := (y 0).isLt
    have h : (y 2).val < 128 := (y 2).isLt
    omega⟩ : Fin 1024))

/-- The rows as the groups of a point. -/
def tiled (R : FVec Ideal S1024x1024 .f32) : Vec Ideal S1x8x128x1024 .f32 := fun y =>
  R (ix2 (⟨8 * (y 2).val + (y 1).val, by
    have h0 : (y 1).val < 8 := (y 1).isLt
    have h : (y 2).val < 128 := (y 2).isLt
    omega⟩ : Fin 1024) (y 3))

theorem slab_cut (R : FVec Ideal S1024x1024 .f32) (k n : ℕ) (hk : k + 1 ≤ 8) (hn : n = 128 * k)
    (hs : S1024x1024.Slices ![0, n] S1024x128) (hc : S1024x128.ShapeCasts S1x1024x128) (x : S1x1024x128.Idx) :
    shapeCast S1x1024x128 (extractStridedSlice S1024x128 ![0, n] R hs) hc x = slab R k hk x := by
  obtain ⟨z, r, e, rfl⟩ : ∃ (z : Fin 1) (r : Fin 1024) (e : Fin 128), x = ix3 z r e :=
    ⟨x 0, x 1, x 2, by funext a; fin_cases a <;> rfl⟩
  subst hn
  pointwise [slab]

theorem slab_piece (R : FVec Ideal S1024x1024 .f32) (k : ℕ) (hk : k + 1 ≤ 8) (x : S1x1024x128.Idx) :
    slab R k hk x = laid R ((Rect.unit (s := S8x1024x128) ![k, 0, 0] S1x1024x128.size (inb_slab k hk)).emb x) := by
  have main (z : Fin 1) (r : Fin 1024) (e : Fin 128) : (Rect.unit (s := S8x1024x128) ![k, 0, 0] S1x1024x128.size (inb_slab k hk)).emb
      (ix3 z r e) = ix3 (⟨k, by omega⟩ : Fin 8) r e := by
    funext a; apply Fin.ext; fin_cases a <;> simp
  obtain ⟨z, r, e, rfl⟩ : ∃ (z : Fin 1) (r : Fin 1024) (e : Fin 128), x = ix3 z r e :=
    ⟨x 0, x 1, x 2, by funext a; fin_cases a <;> rfl⟩
  exact (congrArg (laid R) (main z r e)).symm

theorem inb_slot (k s : ℕ) (hk : k + 1 ≤ 8) (hs : s + 1 ≤ 8) : ∀ a, (![0, s, 0, 128 * k] : Fin 4 → ℕ) a + S1x1x128x128.size a ≤ S1x8x128x1024.size a := by
  intro a; fin_cases a <;> simp <;> omega

/-- A group's column slab, as read back from the slabs and stored. -/
theorem group_piece (vw : View sig .tc .vmem S8x1024x128 .f32) (L : List (View.Piece (Elt Ideal) S8x1024x128 .f32)) (R : FVec Ideal S1024x1024 .f32)
    (hL : ∀ y, View.canon L y = laid R y) (k s : ℕ) (hk : k + 1 ≤ 8) (hs : s + 1 ≤ 8)
    (inb : ∀ a, S1x128x128.size a = 0 ∨ (![k, s, 0] : Fin 3 → ℕ) a + (![1, 8, 1] : Fin 3 → ℕ) a * (S1x128x128.size a - 1) < S8x1024x128.size a)
    (h1 : S1x128x128.ShapeCasts S128x128) (h2 : S128x128.ShapeCasts S1x1x128x128) (x : S1x1x128x128.Idx) :
    shapeCast S1x1x128x128 (shapeCast S128x128 (vw.readCov L
        (⟨![k, s, 0], S1x128x128.size, ![1, 8, 1], inb⟩ : LoadRect S8x1024x128) : Vec Ideal S1x128x128 .f32) h1) h2 x
      = tiled R ((Rect.unit (s := S1x8x128x1024) ![0, s, 0, 128 * k] S1x1x128x128.size (inb_slot k s hk hs)).emb x) := by
  have main (z w : Fin 1) (q : Fin 128) (e : Fin 128) : (Rect.unit (s := S1x8x128x1024) ![0, s, 0, 128 * k] S1x1x128x128.size (inb_slot k s hk hs)).emb
      (ix4 z w q e) = ix4 (0 : Fin 1) (⟨s, by omega⟩ : Fin 8) q (⟨128 * k + e.val, by omega⟩ : Fin 1024) := by
    funext a; apply Fin.ext; fin_cases a <;> simp
  have strided (q : Fin 128) (e : Fin 128) : (⟨![k, s, 0], S1x128x128.size, ![1, 8, 1], inb⟩ : LoadRect S8x1024x128).idx (ix3 (0 : Fin 1) q e)
      = ix3 (⟨k, by omega⟩ : Fin 8) (⟨8 * q.val + s, by omega⟩ : Fin 1024) e := by
    funext a; apply Fin.ext; fin_cases a <;> simp [LoadRect.idx] <;> omega
  obtain ⟨z, w, q, e, rfl⟩ : ∃ (z w : Fin 1) (q : Fin 128) (e : Fin 128), x = ix4 z w q e :=
    ⟨x 0, x 1, x 2, x 3, by funext a; fin_cases a <;> rfl⟩
  rw [View.readCov_eq_canon']
  generalize hV : ((fun j => View.canon L ((⟨![k, s, 0], S1x128x128.size, ![1, 8, 1], inb⟩ : LoadRect S8x1024x128).idx j)) : Vec Ideal S1x128x128 .f32) = V
  have e1 : shapeCast S1x1x128x128 (shapeCast S128x128 V h1) h2 (ix4 z w q e) = V (ix3 (0 : Fin 1) q e) := by
    pointwise []
  refine e1.trans ?_
  rw [← hV, main]
  exact (congrArg (View.canon L) (strided q e)).trans (hL _)

set_option maxHeartbeats 4000000 in
set_option maxHeartbeats 4000000 in
/-- The slabs hold the last rows. -/
theorem slabs_word (c : Dev nD) (i : grid0.Coords) (arg1 : Memref sig .tc .vmem S1024x1024 .f32) (harg1 : arg1.IsWhole) (arg2
    : Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg5 : Memref sig .tc .vmem
    S1x1024x5632 .bf16) (harg5 : arg5.IsWhole) (arg6 : Memref sig .tc .vmem S1x3x5632 .f32) (harg6 : arg6.IsWhole) (arg7 :
    Memref sig .tc .vmem S1x1x5632 .f32) (harg7 : arg7.IsWhole) (arg8 : Memref sig .tc .vmem S1x2816x1024 .bf16) (harg8 :
    arg8.IsWhole) (arg9 : Memref sig .tc .vmem S1x1024 .f32) (harg9 : arg9.IsWhole) (arg11 : Memref sig .tc .vmem S1056x1024
    .bf16) (arg12 : Memref sig .tc .vmem S1024x2816 .bf16) (arg13 : Memref sig .tc .vmem S2x1056x256 .f32) (arg14 : Memref sig
    .tc .vmem S2x1056x256 .f32) (x0 : Vec Ideal S1024x1024 .f32) (x1 : Vec Ideal S8x1024 .f32) (x2 : Vec Ideal S8x1024 .f32)
    (x3 : Vec Ideal S1x1x3072 .f32) (x4 : Vec Ideal S1x1024x5632 .bf16) (x5 : Vec Ideal S1x3x5632 .f32) (x6 : Vec Ideal
    S1x1x5632 .f32) (x7 : Vec Ideal S1x2816x1024 .bf16) (x8 : Vec Ideal S1x1024 .f32) (y : S8x1024x128.Idx) :
  View.canon (kernelRun0_A.sl.HS4_8 (F := Ideal) c i arg1 harg1 arg2 harg2 arg3 harg3 arg4 harg4 arg5 harg5 arg6 harg6 arg7
    harg7 arg8 harg8 arg9 harg9 arg11 arg12 arg13 arg14 x0 x1 x2 x3 x4 x5 x6 x7 x8) y
      = laid (kernelRun0_A.sl.r_47 (F := Ideal) c i arg1 harg1 arg2 harg2 arg3 harg3 arg4 harg4 arg5 harg5 arg6 harg6 arg7 harg7 arg8 harg8 arg9 harg9 arg11 arg12 arg13 arg14 x0 x1 x2 x3 x4 x5 x6 x7 x8) y := by
  refine View.canon_apply_of_pieces (laid (kernelRun0_A.sl.r_47 (F := Ideal) c i arg1 harg1 arg2 harg2 arg3 harg3 arg4 harg4 arg5 harg5 arg6 harg6 arg7 harg7 arg8 harg8 arg9 harg9 arg11 arg12 arg13 arg14 x0 x1 x2 x3 x4 x5 x6 x7 x8)) _ (View.PiecesOf.mem ?_) y
    (View.cover_of_tiledL (s := S8x1024x128) _ S1x1024x128.size (by sl_kernel_rfl) y)
  unfold kernelRun0_A.sl.HS4_8
  refine ⟨fun x => Eq.trans ?_ (slab_piece _ 7 (by omega) x), fun x => Eq.trans ?_ (slab_piece _ 6 (by omega) x), fun x => Eq.trans ?_ (slab_piece _ 5 (by omega) x), fun x => Eq.trans ?_ (slab_piece _ 4 (by omega) x), fun x => Eq.trans ?_ (slab_piece _ 3 (by omega) x), fun x => Eq.trans ?_ (slab_piece _ 2 (by omega) x), fun x => Eq.trans ?_ (slab_piece _ 1 (by omega) x), fun x => Eq.trans ?_ (slab_piece _ 0 (by omega) x), trivial⟩
  · unfold kernelRun0_A.sl.v1110 kernelRun0_A.sl.v1107
    dsimp only
    exact slab_cut _ 7 896 (by omega) rfl slices_S1024x1024_o0_896_S1024x128 shapeCasts_S1024x128_S1x1024x128 x
  · unfold kernelRun0_A.sl.v1106 kernelRun0_A.sl.v1103
    dsimp only
    exact slab_cut _ 6 768 (by omega) rfl slices_S1024x1024_o0_768_S1024x128 shapeCasts_S1024x128_S1x1024x128 x
  · unfold kernelRun0_A.sl.v1102 kernelRun0_A.sl.v1099
    dsimp only
    exact slab_cut _ 5 640 (by omega) rfl slices_S1024x1024_o0_640_S1024x128 shapeCasts_S1024x128_S1x1024x128 x
  · unfold kernelRun0_A.sl.v1098 kernelRun0_A.sl.v1095
    dsimp only
    exact slab_cut _ 4 512 (by omega) rfl slices_S1024x1024_o0_512_S1024x128 shapeCasts_S1024x128_S1x1024x128 x
  · unfold kernelRun0_A.sl.v1094 kernelRun0_A.sl.v1091
    dsimp only
    exact slab_cut _ 3 384 (by omega) rfl slices_S1024x1024_o0_384_S1024x128 shapeCasts_S1024x128_S1x1024x128 x
  · unfold kernelRun0_A.sl.v1090 kernelRun0_A.sl.v1087
    dsimp only
    exact slab_cut _ 2 256 (by omega) rfl slices_S1024x1024_o0_256_S1024x128 shapeCasts_S1024x128_S1x1024x128 x
  · unfold kernelRun0_A.sl.v1086 kernelRun0_A.sl.r_48 k0_pay88
    dsimp only
    exact slab_cut _ 1 128 (by omega) rfl slices_S1024x1024_o0_128_S1024x128 shapeCasts_S1024x128_S1x1024x128 x
  · dsimp only
    unfold k0_pay87
    exact slab_cut _ 0 0 (by omega) rfl slices_S1024x1024_o0_0_S1024x128 shapeCasts_S1024x128_S1x1024x128 x

end Cert.Ffn

end
-- ==== Proof.FfnOut.lean ====
/- What one point of the feed-forward call stores: its last rows, group by group. -/
module

public import proofs.«01_k».proof.Proof.FfnLast

@[expose] public section

set_option maxRecDepth 16384

noncomputable section

namespace Cert.Ffn

open Idealize.ShloMosaic Idealize.ShloMosaic.TcCoe Idealize.ShloMosaic.Tactic Idealize.SL.Sem
open Cert.Kernel2Ideal Cert.Kernel2Ideal.Gen
open scoped BigOperators
set_option maxHeartbeats 16000000 in
/-- Each store puts a group of the last rows in its place. -/
theorem stores (c : Dev nD) (i : grid0.Coords) (arg1 : Memref sig .tc .vmem S1024x1024 .f32) (harg1 : arg1.IsWhole) (arg2 :
    Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg5 : Memref sig .tc .vmem
    S1x1024x5632 .bf16) (harg5 : arg5.IsWhole) (arg6 : Memref sig .tc .vmem S1x3x5632 .f32) (harg6 : arg6.IsWhole) (arg7 :
    Memref sig .tc .vmem S1x1x5632 .f32) (harg7 : arg7.IsWhole) (arg8 : Memref sig .tc .vmem S1x2816x1024 .bf16) (harg8 :
    arg8.IsWhole) (arg9 : Memref sig .tc .vmem S1x1024 .f32) (harg9 : arg9.IsWhole) (arg10 : Memref sig .tc .vmem
    S1x8x128x1024 .f32) (harg10 : arg10.IsWhole) (arg11 : Memref sig .tc .vmem S1056x1024 .bf16) (harg11 : arg11.IsWhole)
    (arg12 : Memref sig .tc .vmem S1024x2816 .bf16) (harg12 : arg12.IsWhole) (arg13 : Memref sig .tc .vmem S2x1056x256 .f32)
    (harg13 : arg13.IsWhole) (arg14 : Memref sig .tc .vmem S2x1056x256 .f32) (harg14 : arg14.IsWhole) (arg15 : Memref sig .tc
    .vmem S8x1024x128 .f32) (harg15 : arg15.IsWhole) (x0 : Vec Ideal S1024x1024 .f32) (x1 : Vec Ideal S8x1024 .f32) (x2 : Vec
    Ideal S8x1024 .f32) (x3 : Vec Ideal S1x1x3072 .f32) (x4 : Vec Ideal S1x1024x5632 .bf16) (x5 : Vec Ideal S1x3x5632 .f32)
    (x6 : Vec Ideal S1x1x5632 .f32) (x7 : Vec Ideal S1x2816x1024 .bf16) (x8 : Vec Ideal S1x1024 .f32) :
  View.PiecesOf (Val := Elt Ideal) (e := .f32) (tiled (kernelRun0_A.sl.r_47 (F := Ideal) c i arg1 harg1 arg2 harg2 arg3 harg3
    arg4 harg4 arg5 harg5 arg6 harg6 arg7 harg7 arg8 harg8 arg9 harg9 arg11 arg12 arg13 arg14 x0 x1 x2 x3 x4 x5 x6 x7 x8))
    (kernelRun0_A (F := Ideal) c i arg1 harg1 arg2 harg2 arg3 harg3 arg4 harg4 arg5 harg5 arg6 harg6 arg7 harg7 arg8 harg8
    arg9 harg9 arg10 harg10 arg11 harg11 arg12 harg12 arg13 harg13 arg14 harg14 arg15 harg15 x0 x1 x2 x3 x4 x5 x6 x7 x8).1 :=
    by
  have hL := slabs_word c i arg1 harg1 arg2 harg2 arg3 harg3 arg4 harg4 arg5 harg5 arg6 harg6 arg7 harg7 arg8 harg8 arg9 harg9 arg11 arg12 arg13 arg14 x0 x1 x2 x3 x4 x5 x6 x7 x8
  unfold kernelRun0_A
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => group_piece arg15.view _ _ hL 7 7 (by omega) (by omega) inb_S8x1024x128_S1x128x128_7_7_0_s_1_8_1
      shapeCasts_S1x128x128_S128x128 shapeCasts_S128x128_S1x1x128x128 x
  · exact fun x => group_piece arg15.view _ _ hL 6 7 (by omega) (by omega) inb_S8x1024x128_S1x128x128_6_7_0_s_1_8_1
      shapeCasts_S1x128x128_S128x128 shapeCasts_S128x128_S1x1x128x128 x
  · exact fun x => group_piece arg15.view _ _ hL 5 7 (by omega) (by omega) inb_S8x1024x128_S1x128x128_5_7_0_s_1_8_1
      shapeCasts_S1x128x128_S128x128 shapeCasts_S128x128_S1x1x128x128 x
  · exact fun x => group_piece arg15.view _ _ hL 4 7 (by omega) (by omega) inb_S8x1024x128_S1x128x128_4_7_0_s_1_8_1
      shapeCasts_S1x128x128_S128x128 shapeCasts_S128x128_S1x1x128x128 x
  · exact fun x => group_piece arg15.view _ _ hL 3 7 (by omega) (by omega) inb_S8x1024x128_S1x128x128_3_7_0_s_1_8_1
      shapeCasts_S1x128x128_S128x128 shapeCasts_S128x128_S1x1x128x128 x
  · exact fun x => group_piece arg15.view _ _ hL 2 7 (by omega) (by omega) inb_S8x1024x128_S1x128x128_2_7_0_s_1_8_1
      shapeCasts_S1x128x128_S128x128 shapeCasts_S128x128_S1x1x128x128 x
  · exact fun x => group_piece arg15.view _ _ hL 1 7 (by omega) (by omega) inb_S8x1024x128_S1x128x128_1_7_0_s_1_8_1
      shapeCasts_S1x128x128_S128x128 shapeCasts_S128x128_S1x1x128x128 x
  · exact fun x => group_piece arg15.view _ _ hL 0 7 (by omega) (by omega) inb_S8x1024x128_S1x128x128_0_7_0_s_1_8_1
      shapeCasts_S1x128x128_S128x128 shapeCasts_S128x128_S1x1x128x128 x
  · exact fun x => group_piece arg15.view _ _ hL 7 6 (by omega) (by omega) inb_S8x1024x128_S1x128x128_7_6_0_s_1_8_1
      shapeCasts_S1x128x128_S128x128 shapeCasts_S128x128_S1x1x128x128 x
  · exact fun x => group_piece arg15.view _ _ hL 6 6 (by omega) (by omega) inb_S8x1024x128_S1x128x128_6_6_0_s_1_8_1
      shapeCasts_S1x128x128_S128x128 shapeCasts_S128x128_S1x1x128x128 x
  · exact fun x => group_piece arg15.view _ _ hL 5 6 (by omega) (by omega) inb_S8x1024x128_S1x128x128_5_6_0_s_1_8_1
      shapeCasts_S1x128x128_S128x128 shapeCasts_S128x128_S1x1x128x128 x
  · exact fun x => group_piece arg15.view _ _ hL 4 6 (by omega) (by omega) inb_S8x1024x128_S1x128x128_4_6_0_s_1_8_1
      shapeCasts_S1x128x128_S128x128 shapeCasts_S128x128_S1x1x128x128 x
  · exact fun x => group_piece arg15.view _ _ hL 3 6 (by omega) (by omega) inb_S8x1024x128_S1x128x128_3_6_0_s_1_8_1
      shapeCasts_S1x128x128_S128x128 shapeCasts_S128x128_S1x1x128x128 x
  · exact fun x => group_piece arg15.view _ _ hL 2 6 (by omega) (by omega) inb_S8x1024x128_S1x128x128_2_6_0_s_1_8_1
      shapeCasts_S1x128x128_S128x128 shapeCasts_S128x128_S1x1x128x128 x
  · exact fun x => group_piece arg15.view _ _ hL 1 6 (by omega) (by omega) inb_S8x1024x128_S1x128x128_1_6_0_s_1_8_1
      shapeCasts_S1x128x128_S128x128 shapeCasts_S128x128_S1x1x128x128 x
  · exact fun x => group_piece arg15.view _ _ hL 0 6 (by omega) (by omega) inb_S8x1024x128_S1x128x128_0_6_0_s_1_8_1
      shapeCasts_S1x128x128_S128x128 shapeCasts_S128x128_S1x1x128x128 x
  · exact fun x => group_piece arg15.view _ _ hL 7 5 (by omega) (by omega) inb_S8x1024x128_S1x128x128_7_5_0_s_1_8_1
      shapeCasts_S1x128x128_S128x128 shapeCasts_S128x128_S1x1x128x128 x
  · exact fun x => group_piece arg15.view _ _ hL 6 5 (by omega) (by omega) inb_S8x1024x128_S1x128x128_6_5_0_s_1_8_1
      shapeCasts_S1x128x128_S128x128 shapeCasts_S128x128_S1x1x128x128 x
  · exact fun x => group_piece arg15.view _ _ hL 5 5 (by omega) (by omega) inb_S8x1024x128_S1x128x128_5_5_0_s_1_8_1
      shapeCasts_S1x128x128_S128x128 shapeCasts_S128x128_S1x1x128x128 x
  · exact fun x => group_piece arg15.view _ _ hL 4 5 (by omega) (by omega) inb_S8x1024x128_S1x128x128_4_5_0_s_1_8_1
      shapeCasts_S1x128x128_S128x128 shapeCasts_S128x128_S1x1x128x128 x
  · exact fun x => group_piece arg15.view _ _ hL 3 5 (by omega) (by omega) inb_S8x1024x128_S1x128x128_3_5_0_s_1_8_1
      shapeCasts_S1x128x128_S128x128 shapeCasts_S128x128_S1x1x128x128 x
  · exact fun x => group_piece arg15.view _ _ hL 2 5 (by omega) (by omega) inb_S8x1024x128_S1x128x128_2_5_0_s_1_8_1
      shapeCasts_S1x128x128_S128x128 shapeCasts_S128x128_S1x1x128x128 x
  · exact fun x => group_piece arg15.view _ _ hL 1 5 (by omega) (by omega) inb_S8x1024x128_S1x128x128_1_5_0_s_1_8_1
      shapeCasts_S1x128x128_S128x128 shapeCasts_S128x128_S1x1x128x128 x
  · exact fun x => group_piece arg15.view _ _ hL 0 5 (by omega) (by omega) inb_S8x1024x128_S1x128x128_0_5_0_s_1_8_1
      shapeCasts_S1x128x128_S128x128 shapeCasts_S128x128_S1x1x128x128 x
  · exact fun x => group_piece arg15.view _ _ hL 7 4 (by omega) (by omega) inb_S8x1024x128_S1x128x128_7_4_0_s_1_8_1
      shapeCasts_S1x128x128_S128x128 shapeCasts_S128x128_S1x1x128x128 x
  · exact fun x => group_piece arg15.view _ _ hL 6 4 (by omega) (by omega) inb_S8x1024x128_S1x128x128_6_4_0_s_1_8_1
      shapeCasts_S1x128x128_S128x128 shapeCasts_S128x128_S1x1x128x128 x
  · exact fun x => group_piece arg15.view _ _ hL 5 4 (by omega) (by omega) inb_S8x1024x128_S1x128x128_5_4_0_s_1_8_1
      shapeCasts_S1x128x128_S128x128 shapeCasts_S128x128_S1x1x128x128 x
  · exact fun x => group_piece arg15.view _ _ hL 4 4 (by omega) (by omega) inb_S8x1024x128_S1x128x128_4_4_0_s_1_8_1
      shapeCasts_S1x128x128_S128x128 shapeCasts_S128x128_S1x1x128x128 x
  · exact fun x => group_piece arg15.view _ _ hL 3 4 (by omega) (by omega) inb_S8x1024x128_S1x128x128_3_4_0_s_1_8_1
      shapeCasts_S1x128x128_S128x128 shapeCasts_S128x128_S1x1x128x128 x
  · exact fun x => group_piece arg15.view _ _ hL 2 4 (by omega) (by omega) inb_S8x1024x128_S1x128x128_2_4_0_s_1_8_1
      shapeCasts_S1x128x128_S128x128 shapeCasts_S128x128_S1x1x128x128 x
  · exact fun x => group_piece arg15.view _ _ hL 1 4 (by omega) (by omega) inb_S8x1024x128_S1x128x128_1_4_0_s_1_8_1
      shapeCasts_S1x128x128_S128x128 shapeCasts_S128x128_S1x1x128x128 x
  · exact fun x => group_piece arg15.view _ _ hL 0 4 (by omega) (by omega) inb_S8x1024x128_S1x128x128_0_4_0_s_1_8_1
      shapeCasts_S1x128x128_S128x128 shapeCasts_S128x128_S1x1x128x128 x
  · exact fun x => group_piece arg15.view _ _ hL 7 3 (by omega) (by omega) inb_S8x1024x128_S1x128x128_7_3_0_s_1_8_1
      shapeCasts_S1x128x128_S128x128 shapeCasts_S128x128_S1x1x128x128 x
  · exact fun x => group_piece arg15.view _ _ hL 6 3 (by omega) (by omega) inb_S8x1024x128_S1x128x128_6_3_0_s_1_8_1
      shapeCasts_S1x128x128_S128x128 shapeCasts_S128x128_S1x1x128x128 x
  · exact fun x => group_piece arg15.view _ _ hL 5 3 (by omega) (by omega) inb_S8x1024x128_S1x128x128_5_3_0_s_1_8_1
      shapeCasts_S1x128x128_S128x128 shapeCasts_S128x128_S1x1x128x128 x
  · exact fun x => group_piece arg15.view _ _ hL 4 3 (by omega) (by omega) inb_S8x1024x128_S1x128x128_4_3_0_s_1_8_1
      shapeCasts_S1x128x128_S128x128 shapeCasts_S128x128_S1x1x128x128 x
  · exact fun x => group_piece arg15.view _ _ hL 3 3 (by omega) (by omega) inb_S8x1024x128_S1x128x128_3_3_0_s_1_8_1
      shapeCasts_S1x128x128_S128x128 shapeCasts_S128x128_S1x1x128x128 x
  · exact fun x => group_piece arg15.view _ _ hL 2 3 (by omega) (by omega) inb_S8x1024x128_S1x128x128_2_3_0_s_1_8_1
      shapeCasts_S1x128x128_S128x128 shapeCasts_S128x128_S1x1x128x128 x
  · exact fun x => group_piece arg15.view _ _ hL 1 3 (by omega) (by omega) inb_S8x1024x128_S1x128x128_1_3_0_s_1_8_1
      shapeCasts_S1x128x128_S128x128 shapeCasts_S128x128_S1x1x128x128 x
  · exact fun x => group_piece arg15.view _ _ hL 0 3 (by omega) (by omega) inb_S8x1024x128_S1x128x128_0_3_0_s_1_8_1
      shapeCasts_S1x128x128_S128x128 shapeCasts_S128x128_S1x1x128x128 x
  · exact fun x => group_piece arg15.view _ _ hL 7 2 (by omega) (by omega) inb_S8x1024x128_S1x128x128_7_2_0_s_1_8_1
      shapeCasts_S1x128x128_S128x128 shapeCasts_S128x128_S1x1x128x128 x
  · exact fun x => group_piece arg15.view _ _ hL 6 2 (by omega) (by omega) inb_S8x1024x128_S1x128x128_6_2_0_s_1_8_1
      shapeCasts_S1x128x128_S128x128 shapeCasts_S128x128_S1x1x128x128 x
  · exact fun x => group_piece arg15.view _ _ hL 5 2 (by omega) (by omega) inb_S8x1024x128_S1x128x128_5_2_0_s_1_8_1
      shapeCasts_S1x128x128_S128x128 shapeCasts_S128x128_S1x1x128x128 x
  · exact fun x => group_piece arg15.view _ _ hL 4 2 (by omega) (by omega) inb_S8x1024x128_S1x128x128_4_2_0_s_1_8_1
      shapeCasts_S1x128x128_S128x128 shapeCasts_S128x128_S1x1x128x128 x
  · exact fun x => group_piece arg15.view _ _ hL 3 2 (by omega) (by omega) inb_S8x1024x128_S1x128x128_3_2_0_s_1_8_1
      shapeCasts_S1x128x128_S128x128 shapeCasts_S128x128_S1x1x128x128 x
  · exact fun x => group_piece arg15.view _ _ hL 2 2 (by omega) (by omega) inb_S8x1024x128_S1x128x128_2_2_0_s_1_8_1
      shapeCasts_S1x128x128_S128x128 shapeCasts_S128x128_S1x1x128x128 x
  · exact fun x => group_piece arg15.view _ _ hL 1 2 (by omega) (by omega) inb_S8x1024x128_S1x128x128_1_2_0_s_1_8_1
      shapeCasts_S1x128x128_S128x128 shapeCasts_S128x128_S1x1x128x128 x
  · exact fun x => group_piece arg15.view _ _ hL 0 2 (by omega) (by omega) inb_S8x1024x128_S1x128x128_0_2_0_s_1_8_1
      shapeCasts_S1x128x128_S128x128 shapeCasts_S128x128_S1x1x128x128 x
  · exact fun x => group_piece arg15.view _ _ hL 7 1 (by omega) (by omega) inb_S8x1024x128_S1x128x128_7_1_0_s_1_8_1
      shapeCasts_S1x128x128_S128x128 shapeCasts_S128x128_S1x1x128x128 x
  · exact fun x => group_piece arg15.view _ _ hL 6 1 (by omega) (by omega) inb_S8x1024x128_S1x128x128_6_1_0_s_1_8_1
      shapeCasts_S1x128x128_S128x128 shapeCasts_S128x128_S1x1x128x128 x
  · exact fun x => group_piece arg15.view _ _ hL 5 1 (by omega) (by omega) inb_S8x1024x128_S1x128x128_5_1_0_s_1_8_1
      shapeCasts_S1x128x128_S128x128 shapeCasts_S128x128_S1x1x128x128 x
  · exact fun x => group_piece arg15.view _ _ hL 4 1 (by omega) (by omega) inb_S8x1024x128_S1x128x128_4_1_0_s_1_8_1
      shapeCasts_S1x128x128_S128x128 shapeCasts_S128x128_S1x1x128x128 x
  · exact fun x => group_piece arg15.view _ _ hL 3 1 (by omega) (by omega) inb_S8x1024x128_S1x128x128_3_1_0_s_1_8_1
      shapeCasts_S1x128x128_S128x128 shapeCasts_S128x128_S1x1x128x128 x
  · exact fun x => group_piece arg15.view _ _ hL 2 1 (by omega) (by omega) inb_S8x1024x128_S1x128x128_2_1_0_s_1_8_1
      shapeCasts_S1x128x128_S128x128 shapeCasts_S128x128_S1x1x128x128 x
  · exact fun x => group_piece arg15.view _ _ hL 1 1 (by omega) (by omega) inb_S8x1024x128_S1x128x128_1_1_0_s_1_8_1
      shapeCasts_S1x128x128_S128x128 shapeCasts_S128x128_S1x1x128x128 x
  · exact fun x => group_piece arg15.view _ _ hL 0 1 (by omega) (by omega) inb_S8x1024x128_S1x128x128_0_1_0_s_1_8_1
      shapeCasts_S1x128x128_S128x128 shapeCasts_S128x128_S1x1x128x128 x
  · exact fun x => group_piece arg15.view _ _ hL 7 0 (by omega) (by omega) inb_S8x1024x128_S1x128x128_7_0_0_s_1_8_1
      shapeCasts_S1x128x128_S128x128 shapeCasts_S128x128_S1x1x128x128 x
  · exact fun x => group_piece arg15.view _ _ hL 6 0 (by omega) (by omega) inb_S8x1024x128_S1x128x128_6_0_0_s_1_8_1
      shapeCasts_S1x128x128_S128x128 shapeCasts_S128x128_S1x1x128x128 x
  · exact fun x => group_piece arg15.view _ _ hL 5 0 (by omega) (by omega) inb_S8x1024x128_S1x128x128_5_0_0_s_1_8_1
      shapeCasts_S1x128x128_S128x128 shapeCasts_S128x128_S1x1x128x128 x
  · exact fun x => group_piece arg15.view _ _ hL 4 0 (by omega) (by omega) inb_S8x1024x128_S1x128x128_4_0_0_s_1_8_1
      shapeCasts_S1x128x128_S128x128 shapeCasts_S128x128_S1x1x128x128 x
  · exact fun x => group_piece arg15.view _ _ hL 3 0 (by omega) (by omega) inb_S8x1024x128_S1x128x128_3_0_0_s_1_8_1
      shapeCasts_S1x128x128_S128x128 shapeCasts_S128x128_S1x1x128x128 x
  · exact fun x => group_piece arg15.view _ _ hL 2 0 (by omega) (by omega) inb_S8x1024x128_S1x128x128_2_0_0_s_1_8_1
      shapeCasts_S1x128x128_S128x128 shapeCasts_S128x128_S1x1x128x128 x
  · exact fun x => group_piece arg15.view _ _ hL 1 0 (by omega) (by omega) inb_S8x1024x128_S1x128x128_1_0_0_s_1_8_1
      shapeCasts_S1x128x128_S128x128 shapeCasts_S128x128_S1x1x128x128 x
  · exact fun x => group_piece arg15.view _ _ hL 0 0 (by omega) (by omega) inb_S8x1024x128_S1x128x128_0_0_0_s_1_8_1
      shapeCasts_S1x128x128_S128x128 shapeCasts_S128x128_S1x1x128x128 x

/-- The block a point leaves is its last rows in groups. -/
theorem out_word (c : Dev nD) (i : grid0.Coords) (arg1 : Memref sig .tc .vmem S1024x1024 .f32) (harg1 : arg1.IsWhole) (arg2 :
    Memref sig .tc .vmem S8x1024 .f32) (harg2 : arg2.IsWhole) (arg3 : Memref sig .tc .vmem S8x1024 .f32) (harg3 :
    arg3.IsWhole) (arg4 : Memref sig .tc .vmem S1x1x3072 .f32) (harg4 : arg4.IsWhole) (arg5 : Memref sig .tc .vmem
    S1x1024x5632 .bf16) (harg5 : arg5.IsWhole) (arg6 : Memref sig .tc .vmem S1x3x5632 .f32) (harg6 : arg6.IsWhole) (arg7 :
    Memref sig .tc .vmem S1x1x5632 .f32) (harg7 : arg7.IsWhole) (arg8 : Memref sig .tc .vmem S1x2816x1024 .bf16) (harg8 :
    arg8.IsWhole) (arg9 : Memref sig .tc .vmem S1x1024 .f32) (harg9 : arg9.IsWhole) (arg10 : Memref sig .tc .vmem
    S1x8x128x1024 .f32) (harg10 : arg10.IsWhole) (arg11 : Memref sig .tc .vmem S1056x1024 .bf16) (harg11 : arg11.IsWhole)
    (arg12 : Memref sig .tc .vmem S1024x2816 .bf16) (harg12 : arg12.IsWhole) (arg13 : Memref sig .tc .vmem S2x1056x256 .f32)
    (harg13 : arg13.IsWhole) (arg14 : Memref sig .tc .vmem S2x1056x256 .f32) (harg14 : arg14.IsWhole) (arg15 : Memref sig .tc
    .vmem S8x1024x128 .f32) (harg15 : arg15.IsWhole) (x0 : Vec Ideal S1024x1024 .f32) (x1 : Vec Ideal S8x1024 .f32) (x2 : Vec
    Ideal S8x1024 .f32) (x3 : Vec Ideal S1x1x3072 .f32) (x4 : Vec Ideal S1x1024x5632 .bf16) (x5 : Vec Ideal S1x3x5632 .f32)
    (x6 : Vec Ideal S1x1x5632 .f32) (x7 : Vec Ideal S1x2816x1024 .bf16) (x8 : Vec Ideal S1x1024 .f32) (y : S1x8x128x1024.Idx)
    :
  out0_A_9 (F := Ideal) c i arg1 harg1 arg2 harg2 arg3 harg3 arg4 harg4 arg5 harg5 arg6 harg6 arg7 harg7 arg8 harg8 arg9 harg9
    arg10 harg10 arg11 harg11 arg12 harg12 arg13 harg13 arg14 harg14 arg15 harg15 x0 x1 x2 x3 x4 x5 x6 x7 x8 y = tiled
    (kernelRun0_A.sl.r_47 (F := Ideal) c i arg1 harg1 arg2 harg2 arg3 harg3 arg4 harg4 arg5 harg5 arg6 harg6 arg7 harg7 arg8
    harg8 arg9 harg9 arg11 arg12 arg13 arg14 x0 x1 x2 x3 x4 x5 x6 x7 x8) y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  exact View.canon_apply_of_pieces _ _ (View.PiecesOf.mem (stores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)) y
    (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y)

end Cert.Ffn

end
-- ==== Proof.FfnRef.lean ====
/- The feed-forward reference, stage by stage, read at an index over the extended reals. -/
module

public import proofs.«01_k».proof.Proof.FfnRows
public import proofs.«01_k».proof.Proof.Gen.Reference2Ideal.Run

@[expose] public section

noncomputable section

namespace Cert.Ffn.Ref

open Idealize.ShloMosaic Idealize.ShloMosaic.TcCoe Idealize.SL.Sem
open Cert.Reference2Ideal Cert.Reference2Ideal.Gen
open scoped BigOperators

/-! ## The stages -/

/-- The normed and modulated rows. -/
def hidden (x : FVec Ideal S4x4096x1024 .f32) (M : FVec Ideal S2x8x6144 .f32) : FVec Ideal S4x4096x1024 .f32 :=
  addf (mulf (mulf x (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf x x) (constant S_ .f32 0x00000000#32)
    reducesTo_S4x4096x1024_S4x4096_d2 h_S_)) (broadcastInDim S4x4096x1 ![] bcast_S_S4x4096x1 (constant S_ .f32
    0x44800000#32))) (broadcastInDim S4x4096x1 ![] bcast_S_S4x4096x1 (constant S_ .f32 0x358637BD#32)))))) (broadcastInDim
    S4x4096x1024 ![0, 1, 2] bcast_S4x1x1024_S4x4096x1024_0_1_2 (addf (broadcastInDim S4x1x1024 ![] bcast_S_S4x1x1024 (constant
    S_ .f32 0x3F800000#32)) (extractStridedSlice S4x1x1024 ![0, 0, 4096] (broadcastInDim S4x1x6144 ![0, 2]
    bcast_S4x6144_S4x1x6144_0_2 (shapeCast _ (extractStridedSlice S1x4x6144 ![1, 0, 0] M slices_S2x8x6144_S1x4x6144_1_0_0)
    shapeCasts_S1x4x6144_S4x6144)) slices_S4x1x6144_S4x1x1024_0_0_4096)))) (broadcastInDim S4x4096x1024 ![0, 1, 2]
    bcast_S4x1x1024_S4x4096x1024_0_1_2 (extractStridedSlice S4x1x1024 ![0, 0, 3072] (broadcastInDim S4x1x6144 ![0, 2]
    bcast_S4x6144_S4x1x6144_0_2 (shapeCast _ (extractStridedSlice S1x4x6144 ![1, 0, 0] M slices_S2x8x6144_S1x4x6144_1_0_0)
    shapeCasts_S1x4x6144_S4x6144)) slices_S4x1x6144_S4x1x1024_0_0_3072))

/-- The up projection between a row of zeros before and one after. -/
def up (h : FVec Ideal S4x4096x1024 .f32) (W : FVec Ideal S2x1024x5632 .f32) : FVec Ideal S4x4098x5632 .f32 :=
  pad S4x4098x5632 ![0, 1, 0] ![0, 1, 0] ![0, 0, 0] (Host.dotGeneral dot_S4x4096x1024_S1024x5632_S4x4096x5632_2_0_01_1_n_n
    none h (shapeCast _ (extractStridedSlice S1x1024x5632 ![1, 0, 0] W slices_S2x1024x5632_S1x1024x5632_1_0_0)
    shapeCasts_S1x1024x5632_S1024x5632)) (sitofp .f32 (constantI S_ 32 0#32)) pads_S4x4096x5632_S4x4098x5632_000_110_000 h_S_

/-- The convolution over three rows. -/
def conv (p : FVec Ideal S4x4098x5632 .f32) (C : FVec Ideal S2x3x5632 .f32) (B : FVec Ideal S2x5632 .f32) :
    FVec Ideal S4x4096x5632 .f32 :=
  addf (addf (addf (mulf (extractStridedSlice S4x4096x5632 ![0, 0, 0] p slices_S4x4098x5632_S4x4096x5632_0_0_0)
    (broadcastInDim S4x4096x5632 ![0, 1, 2] bcast_S1x1x5632_S4x4096x5632_0_1_2 (broadcastInDim S1x1x5632 ![2]
    bcast_S5632_S1x1x5632_2 (shapeCast _ (extractStridedSlice S1x5632 ![0, 0] (shapeCast _ (extractStridedSlice S1x3x5632 ![1,
    0, 0] C slices_S2x3x5632_S1x3x5632_1_0_0) shapeCasts_S1x3x5632_S3x5632) slices_S3x5632_S1x5632_0_0)
    shapeCasts_S1x5632_S5632)))) (mulf (extractStridedSlice S4x4096x5632 ![0, 1, 0] p slices_S4x4098x5632_S4x4096x5632_0_1_0)
    (broadcastInDim S4x4096x5632 ![0, 1, 2] bcast_S1x1x5632_S4x4096x5632_0_1_2 (broadcastInDim S1x1x5632 ![2]
    bcast_S5632_S1x1x5632_2 (shapeCast _ (extractStridedSlice S1x5632 ![1, 0] (shapeCast _ (extractStridedSlice S1x3x5632 ![1,
    0, 0] C slices_S2x3x5632_S1x3x5632_1_0_0) shapeCasts_S1x3x5632_S3x5632) slices_S3x5632_S1x5632_1_0)
    shapeCasts_S1x5632_S5632))))) (mulf (extractStridedSlice S4x4096x5632 ![0, 2, 0] p slices_S4x4098x5632_S4x4096x5632_0_2_0)
    (broadcastInDim S4x4096x5632 ![0, 1, 2] bcast_S1x1x5632_S4x4096x5632_0_1_2 (broadcastInDim S1x1x5632 ![2]
    bcast_S5632_S1x1x5632_2 (shapeCast _ (extractStridedSlice S1x5632 ![2, 0] (shapeCast _ (extractStridedSlice S1x3x5632 ![1,
    0, 0] C slices_S2x3x5632_S1x3x5632_1_0_0) shapeCasts_S1x3x5632_S3x5632) slices_S3x5632_S1x5632_2_0)
    shapeCasts_S1x5632_S5632))))) (broadcastInDim S4x4096x5632 ![0, 1, 2] bcast_S1x1x5632_S4x4096x5632_0_1_2 (broadcastInDim
    S1x1x5632 ![2] bcast_S5632_S1x1x5632_2 (shapeCast _ (extractStridedSlice S1x5632 ![1, 0] B slices_S2x5632_S1x5632_1_0)
    shapeCasts_S1x5632_S5632)))

/-- The gated unit. -/
def act (u : FVec Ideal S4x4096x5632 .f32) : FVec Ideal S4x4096x2816 .f32 :=
  mulf (mulf (extractStridedSlice S4x4096x2816 ![0, 0, 0] u slices_S4x4096x5632_S4x4096x2816_0_0_0) (Host.divf (broadcastInDim
    S4x4096x2816 ![] bcast_S_S4x4096x2816 (constant S_ .f32 0x3F800000#32)) (addf (broadcastInDim S4x4096x2816 ![]
    bcast_S_S4x4096x2816 (constant S_ .f32 0x3F800000#32)) (Host.exp (Host.negf (extractStridedSlice S4x4096x2816 ![0, 0, 0] u
    slices_S4x4096x5632_S4x4096x2816_0_0_0)))))) (extractStridedSlice S4x4096x2816 ![0, 0, 2816] u
    slices_S4x4096x5632_S4x4096x2816_0_0_2816)

/-- The down projection, gated and added to the input. -/
def res (x : FVec Ideal S4x4096x1024 .f32) (M : FVec Ideal S2x8x6144 .f32) (a : FVec Ideal S4x4096x2816 .f32)
    (D : FVec Ideal S2x2816x1024 .f32) : FVec Ideal S4x4096x1024 .f32 :=
  addf x (mulf (broadcastInDim S4x4096x1024 ![0, 1, 2] bcast_S4x1x1024_S4x4096x1024_0_1_2 (extractStridedSlice S4x1x1024 ![0,
    0, 5120] (broadcastInDim S4x1x6144 ![0, 2] bcast_S4x6144_S4x1x6144_0_2 (shapeCast _ (extractStridedSlice S1x4x6144 ![1, 0,
    0] M slices_S2x8x6144_S1x4x6144_1_0_0) shapeCasts_S1x4x6144_S4x6144)) slices_S4x1x6144_S4x1x1024_0_0_5120))
    (Host.dotGeneral dot_S4x4096x2816_S2816x1024_S4x4096x1024_2_0_01_1_n_n none a (shapeCast _ (extractStridedSlice
    S1x2816x1024 ![1, 0, 0] D slices_S2x2816x1024_S1x2816x1024_1_0_0) shapeCasts_S1x2816x1024_S2816x1024)))

/-- The last norm, its tokens in eight groups. -/
def out (o : FVec Ideal S4x4096x1024 .f32) (w : FVec Ideal S1024 .f32) : FVec Ideal S4x8x512x1024 .f32 :=
  shapeCast _ (mulf (mulf o (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf o o) (constant S_ .f32
    0x00000000#32) reducesTo_S4x4096x1024_S4x4096_d2 h_S_)) (broadcastInDim S4x4096x1 ![] bcast_S_S4x4096x1 (constant S_ .f32
    0x44800000#32))) (broadcastInDim S4x4096x1 ![] bcast_S_S4x4096x1 (constant S_ .f32 0x358637BD#32)))))) (broadcastInDim
    S4x4096x1024 ![0, 1, 2] bcast_S1x1x1024_S4x4096x1024_0_1_2 (broadcastInDim S1x1x1024 ![2] bcast_S1024_S1x1x1024_2 w)))
    shapeCasts_S4x4096x1024_S4x8x512x1024

/-- The reference is its stages one after another. -/
theorem stages (m : (ℓ : Loc nD τ sig) → Buf (Elt Ideal) ℓ) (c : Dev nD) :
    Cert.Reference2Ideal.Value.res_out0 m c
      = out (res (m ((c.tc : Thread nD τ).loc main_arg0)) (m ((c.tc : Thread nD τ).loc main_arg1))
          (act (conv (up (hidden (m ((c.tc : Thread nD τ).loc main_arg0)) (m ((c.tc : Thread nD τ).loc main_arg1)))
            (m ((c.tc : Thread nD τ).loc main_arg2))) (m ((c.tc : Thread nD τ).loc main_arg3)) (m ((c.tc : Thread nD τ).loc main_arg4))))
          (m ((c.tc : Thread nD τ).loc main_arg5))) (m ((c.tc : Thread nD τ).loc main_arg6)) := rfl

/-! ## The stages at an index -/

theorem hidden_apply (x : FVec Ideal S4x4096x1024 .f32) (M : FVec Ideal S2x8x6144 .f32) (b : Fin 4) (t : Fin 4096) (d : Fin 1024) :
    hidden x M (ix3 b t d)
      = normRow (fun e => x (ix3 b t e)) (fun e => M (ix3 (1 : Fin 2) (⟨b.val, by omega⟩ : Fin 8) (⟨3072 + e.val, by omega⟩ : Fin 6144)))
          (fun e => M (ix3 (1 : Fin 2) (⟨b.val, by omega⟩ : Fin 8) (⟨4096 + e.val, by omega⟩ : Fin 6144))) d := by
  pointwise [hidden]
  rfl

theorem up_apply (h : FVec Ideal S4x4096x1024 .f32) (W : FVec Ideal S2x1024x5632 .f32) (b : Fin 4) (t : Fin 4098) (f : Fin 5632) :
    up h W (ix3 b t f)
      = if H : 1 ≤ t.val ∧ t.val - 1 < 4096 then
          ∑ c : Fin 1024, h (ix3 b (⟨t.val - 1, H.2⟩ : Fin 4096) c) * W (ix3 (1 : Fin 2) c f) else 0 := by
  pointwise [up]
  rw [show FloatOps.sitofp (F := Ideal) FTy.f32 0#32 = (0 : EReal) by simp [FloatOps.sitofp]]

theorem conv_apply (p : FVec Ideal S4x4098x5632 .f32) (C : FVec Ideal S2x3x5632 .f32) (B : FVec Ideal S2x5632 .f32)
    (b : Fin 4) (t : Fin 4096) (f : Fin 5632) :
    conv p C B (ix3 b t f)
      = p (ix3 b (⟨t.val, by omega⟩ : Fin 4098) f) * C (ix3 (1 : Fin 2) (0 : Fin 3) f)
        + p (ix3 b (⟨1 + t.val, by omega⟩ : Fin 4098) f) * C (ix3 (1 : Fin 2) (1 : Fin 3) f)
        + p (ix3 b (⟨2 + t.val, by omega⟩ : Fin 4098) f) * C (ix3 (1 : Fin 2) (2 : Fin 3) f) + B (ix2 (1 : Fin 2) f) := by
  pointwise [conv]

theorem act_apply (u : FVec Ideal S4x4096x5632 .f32) (b : Fin 4) (t : Fin 4096) (f : Fin 2816) :
    act u (ix3 b t f)
      = gatedRef (u (ix3 b t (⟨f.val, by omega⟩ : Fin 5632))) (u (ix3 b t (⟨2816 + f.val, by omega⟩ : Fin 5632))) := by
  pointwise [act]
  rfl

theorem res_apply (x : FVec Ideal S4x4096x1024 .f32) (M : FVec Ideal S2x8x6144 .f32) (a : FVec Ideal S4x4096x2816 .f32)
    (D : FVec Ideal S2x2816x1024 .f32) (b : Fin 4) (t : Fin 4096) (d : Fin 1024) :
    res x M a D (ix3 b t d)
      = x (ix3 b t d) + M (ix3 (1 : Fin 2) (⟨b.val, by omega⟩ : Fin 8) (⟨5120 + d.val, by omega⟩ : Fin 6144))
          * ∑ f : Fin 2816, a (ix3 b t f) * D (ix3 (1 : Fin 2) f d) := by
  pointwise [res]

theorem out_apply (o : FVec Ideal S4x4096x1024 .f32) (w : FVec Ideal S1024 .f32) (b : Fin 4) (s : Fin 8) (g : Fin 512) (d : Fin 1024) :
    out o w (ix4 b s g d)
      = lastRow (fun e => o (ix3 b (⟨s.val * 512 + g.val, by omega⟩ : Fin 4096) e)) (fun e => w (ix1 e)) d := by
  pointwise [out]
  rfl

end Cert.Ffn.Ref

end
-- ==== Proof.FfnReal.lean ====
/- Real numbers through the feed-forward part: sums, products and norms of real numbers are real, and on a real gate the two
   forms of the gated unit are the same. -/
module

public import proofs.«01_k».proof.Proof.FfnRows

@[expose] public section

noncomputable section

namespace Cert.Ffn

open Idealize.ShloMosaic
open scoped BigOperators

/-- A number that is neither infinity. -/
def IsReal (x : EReal) : Prop := ∃ r : ℝ, x = (r : EReal)

theorem IsReal.add {x y : EReal} : IsReal x → IsReal y → IsReal (x + y) := by
  rintro ⟨r, rfl⟩ ⟨s, rfl⟩
  exact ⟨r + s, (EReal.coe_add r s).symm⟩

theorem IsReal.mul {x y : EReal} : IsReal x → IsReal y → IsReal (x * y) := by
  rintro ⟨r, rfl⟩ ⟨s, rfl⟩
  exact ⟨r * s, (EReal.coe_mul r s).symm⟩

theorem IsReal.zero : IsReal 0 := ⟨0, rfl⟩
theorem IsReal.one : IsReal 1 := ⟨1, rfl⟩

theorem IsReal.sum {n : ℕ} (x : Fin n → EReal) (h : ∀ i, IsReal (x i)) : IsReal (∑ i, x i) := by
  choose r hr using h
  exact ⟨∑ i, r i, by rw [Finset.sum_congr rfl fun i _ => hr i]; exact (map_sum (⟨⟨Real.toEReal, rfl⟩, EReal.coe_add⟩ : ℝ →+ EReal) r _).symm⟩

theorem ofBits_width : Ideal.ofBits .f32 0x44800000#32 = ((1024 : ℝ) : EReal) := by
  simp [Ideal.ofBits, Ideal.ieee, -EReal.coe_mul]; norm_num

theorem ofBits_small : ∃ e : ℝ, 0 < e ∧ Ideal.ofBits .f32 0x358637BD#32 = (e : EReal) := by
  refine ⟨_, ?_, by simp [Ideal.ofBits, Ideal.ieee, -EReal.coe_mul]; rfl⟩
  positivity

theorem ofBits_half : Ideal.ofBits .f32 0x3F000000#32 = ((1 / 2 : ℝ) : EReal) := by
  simp [Ideal.ofBits, Ideal.ieee, -EReal.coe_mul]; norm_num

theorem real_scaleOf (x : Fin 1024 → EReal) (h : ∀ i, IsReal (x i)) : IsReal (scaleOf x) := by
  choose r hr using h
  obtain ⟨e, he, hE⟩ := ofBits_small
  have hs : (∑ c : Fin 1024, x c * x c) = ((∑ c : Fin 1024, r c * r c : ℝ) : EReal) := by
    rw [Finset.sum_congr rfl fun i _ => show x i * x i = ((r i * r i : ℝ) : EReal) by rw [hr i, EReal.coe_mul]]
    exact (map_sum (⟨⟨Real.toEReal, rfl⟩, EReal.coe_add⟩ : ℝ →+ EReal) _ _).symm
  unfold scaleOf
  rw [hs, hE, ofBits_width, Ideal.div_coe (by norm_num), ← EReal.coe_mul, ← EReal.coe_add, Ideal.rsqrt_coe]
  have hp : 0 < (∑ c : Fin 1024, r c * r c) * (1 / 1024 : ℝ) + e := by
    have : 0 ≤ ∑ c : Fin 1024, r c * r c := Finset.sum_nonneg fun i _ => mul_self_nonneg _
    positivity
  rw [if_neg (not_lt.mpr hp.le), if_neg hp.ne']
  exact ⟨_, rfl⟩

theorem real_normRow (x shift scale : Fin 1024 → EReal) (hx : ∀ i, IsReal (x i)) (hh : ∀ i, IsReal (shift i))
    (hc : ∀ i, IsReal (scale i)) (d : Fin 1024) : IsReal (normRow x shift scale d) :=
  (((hx d).mul (real_scaleOf x hx)).mul (IsReal.one.add (hc d))).add (hh d)

theorem half_tanh (g : ℝ) : 1 / 2 * g + 1 / 2 * g * Real.tanh (1 / 2 * g) = g * (1 / (1 + Real.exp (-g))) := by
  have h1 : Real.exp (1 / 2 * g) ≠ 0 := (Real.exp_pos _).ne'
  have h2 : Real.exp (-g) = Real.exp (-(1 / 2 * g)) * Real.exp (-(1 / 2 * g)) := by rw [← Real.exp_add]; ring_nf
  rw [Real.tanh_eq_sinh_div_cosh, Real.sinh_eq, Real.cosh_eq, h2, Real.exp_neg]
  have hp := Real.exp_pos (1 / 2 * g)
  set E := Real.exp (1 / 2 * g) with hE
  have h3 : E + E⁻¹ ≠ 0 := by positivity
  have h4 : 1 + E⁻¹ * E⁻¹ ≠ 0 := by positivity
  field_simp
  ring

theorem gated_eq (g v : EReal) (hg : IsReal g) : gated g v = gatedRef g v := by
  obtain ⟨r, rfl⟩ := hg
  unfold gated gatedRef
  refine congrArg (· * v) ?_
  have hp : (1 + Real.exp (-r)) ≠ 0 := by positivity
  rw [ofBits_half, ← EReal.coe_mul, Ideal.tanh_coe, ← EReal.coe_mul, ← EReal.coe_add, half_tanh, ← EReal.coe_neg, Ideal.exp_coe,
    show (1 : EReal) + ((Real.exp (-r) : ℝ) : EReal) = ((1 + Real.exp (-r) : ℝ) : EReal) by rw [EReal.coe_add]; rfl,
    Ideal.div_coe hp, one_mul, EReal.coe_mul]

end Cert.Ffn

end
-- ==== Proof.FfnPoint.lean ====
/- One point of the feed-forward call beside the reference: on blocks of the arguments, its last rows are the reference's rows of
   the same tokens. -/
module

public import proofs.«01_k».proof.Proof.FfnLast
public import proofs.«01_k».proof.Proof.FfnRef
public import proofs.«01_k».proof.Proof.FfnReal

@[expose] public section

set_option maxRecDepth 16384

noncomputable section

namespace Cert.Ffn

open Idealize.ShloMosaic Idealize.ShloMosaic.TcCoe Idealize.ShloMosaic.Tactic Idealize.SL.Sem
open Cert.Kernel2Ideal Cert.Kernel2Ideal.Gen
open scoped BigOperators

/-- The token of a tile's row. -/
def tok (j : Fin 4) (r : Fin 1024) : Fin 4096 := ⟨r.val % 8 * 512 + (128 * j.val + r.val / 8), by omega⟩

/-- The blocks of a point are pieces of the arguments. -/
structure Holds (X : FVec Ideal S4x4096x1024 .f32) (M : FVec Ideal S2x8x6144 .f32) (W : FVec Ideal S2x1024x5632 .f32)
    (C : FVec Ideal S2x3x5632 .f32) (B : FVec Ideal S2x5632 .f32) (D : FVec Ideal S2x2816x1024 .f32) (L : FVec Ideal S1024 .f32)
    (b j : Fin 4) (x0 : Vec Ideal S1024x1024 .f32) (x1 x2 : Vec Ideal S8x1024 .f32) (x3 : Vec Ideal S1x1x3072 .f32)
    (x4 : Vec Ideal S1x1024x5632 .bf16) (x5 : Vec Ideal S1x3x5632 .f32) (x6 : Vec Ideal S1x1x5632 .f32)
    (x7 : Vec Ideal S1x2816x1024 .bf16) (x8 : Vec Ideal S1x1024 .f32) : Prop where
  x0 : ∀ (r : Fin 1024) (d : Fin 1024), x0 (ix2 r d) = X (ix3 b (tok j r) d)
  x1 : ∀ (s : Fin 8) (d : Fin 1024), x1 (ix2 s d) = X (ix3 b (⟨s.val * 512 + (128 * j.val + 511) % 512, by omega⟩ : Fin 4096) d)
  x2 : ∀ (s : Fin 8) (d : Fin 1024), x2 (ix2 s d) = X (ix3 b (⟨s.val * 512 + (128 * j.val + 128) % 512, by omega⟩ : Fin 4096) d)
  x3 : ∀ e : Fin 3072, x3 (ix3 (0 : Fin 1) (0 : Fin 1) e)
    = M (ix3 (1 : Fin 2) (⟨b.val, by omega⟩ : Fin 8) (⟨3072 + e.val, by omega⟩ : Fin 6144))
  x4 : ∀ (c : Fin 1024) (f : Fin 5632), x4 (ix3 (0 : Fin 1) c f) = W (ix3 (1 : Fin 2) c f)
  x5 : ∀ (k : Fin 3) (f : Fin 5632), x5 (ix3 (0 : Fin 1) k f) = C (ix3 (1 : Fin 2) k f)
  x6 : ∀ f : Fin 5632, x6 (ix3 (0 : Fin 1) (0 : Fin 1) f) = B (ix2 (1 : Fin 2) f)
  x7 : ∀ (k : Fin 2816) (d : Fin 1024), x7 (ix3 (0 : Fin 1) k d) = D (ix3 (1 : Fin 2) k d)
  x8 : ∀ d : Fin 1024, x8 (ix2 (0 : Fin 1) d) = L (ix1 d)

theorem modsFrom_apply (x3 : Vec Ideal S1x1x3072 .f32) (o : ℕ) (h : o + 1024 ≤ 3072) (e : Fin 1024) :
    modsFrom x3 o h (ix3 (0 : Fin 1) (0 : Fin 1) e) = x3 (ix3 (0 : Fin 1) (0 : Fin 1) (⟨o + e.val, by omega⟩ : Fin 3072)) := by
  refine congrArg x3 ?_
  funext a; apply Fin.ext; fin_cases a <;> simp

section Point

variable {X : FVec Ideal S4x4096x1024 .f32} {M : FVec Ideal S2x8x6144 .f32} {W : FVec Ideal S2x1024x5632 .f32}
  {C : FVec Ideal S2x3x5632 .f32} {B : FVec Ideal S2x5632 .f32} {D : FVec Ideal S2x2816x1024 .f32} {L : FVec Ideal S1024 .f32}
  {b j : Fin 4} {x0 : Vec Ideal S1024x1024 .f32} {x1 x2 : Vec Ideal S8x1024 .f32} {x3 : Vec Ideal S1x1x3072 .f32}
  {x4 : Vec Ideal S1x1024x5632 .bf16} {x5 : Vec Ideal S1x3x5632 .f32} {x6 : Vec Ideal S1x1x5632 .f32}
  {x7 : Vec Ideal S1x2816x1024 .bf16} {x8 : Vec Ideal S1x1024 .f32}
  (H : Holds X M W C B D L b j x0 x1 x2 x3 x4 x5 x6 x7 x8)

include H

/-- A row normed by the kernel is the reference's hidden row of its token. -/
theorem hidden_of (x : Fin 1024 → EReal) (t : Fin 4096) (hx : ∀ e, x e = X (ix3 b t e)) (d : Fin 1024) :
    normRow x (fun e => modsFrom x3 0 (by omega) (ix3 0 0 e)) (fun e => modsFrom x3 1024 (by omega) (ix3 0 0 e)) d
      = Ref.hidden X M (ix3 b t d) := by
  rw [Ref.hidden_apply]
  have h0 : x = fun e => X (ix3 b t e) := funext hx
  have h1 : (fun e : Fin 1024 => modsFrom x3 0 (by omega) (ix3 0 0 e))
      = fun e => M (ix3 (1 : Fin 2) (⟨b.val, by omega⟩ : Fin 8) (⟨3072 + e.val, by omega⟩ : Fin 6144)) := by
    funext e
    rw [modsFrom_apply, H.x3]
    refine congrArg (fun k : Fin 6144 => M (ix3 (1 : Fin 2) (⟨b.val, by omega⟩ : Fin 8) k)) (Fin.ext ?_)
    show 3072 + (0 + e.val) = 3072 + e.val
    omega
  have h2 : (fun e : Fin 1024 => modsFrom x3 1024 (by omega) (ix3 0 0 e))
      = fun e => M (ix3 (1 : Fin 2) (⟨b.val, by omega⟩ : Fin 8) (⟨4096 + e.val, by omega⟩ : Fin 6144)) := by
    funext e
    rw [modsFrom_apply, H.x3]
    refine congrArg (fun k : Fin 6144 => M (ix3 (1 : Fin 2) (⟨b.val, by omega⟩ : Fin 8) k)) (Fin.ext ?_)
    show 3072 + (1024 + e.val) = 4096 + e.val
    omega
  rw [h0, h1, h2]

set_option maxHeartbeats 1000000 in
/-- A point's row `k` groups below the group above is the hidden row of the token `k - 1` further on, or zero off the ends. -/
theorem rows_at (k : ℕ) (hk : k ≤ 2) (r : Fin 1024) (d : Fin 1024) :
    rows (BitVec.ofNat 32 j.val) x0 x1 x2 x3 (ix2 (⟨8 + 8 * k + r.val, by omega⟩ : Fin 1056) d)
      = if h : 1 ≤ (tok j r).val + k ∧ (tok j r).val + k - 1 < 4096 then
          Ref.hidden X M (ix3 b (⟨(tok j r).val + k - 1, h.2⟩ : Fin 4096) d) else 0 := by
  have hj := j.isLt
  have hr := r.isLt
  have ht : (tok j r).val = r.val % 8 * 512 + (128 * j.val + r.val / 8) := rfl
  have q0 : BitVec.ofNat 32 j.val = 0#32 ↔ j.val = 0 := (by decide : ∀ j : Fin 4, BitVec.ofNat 32 j.val = 0#32 ↔ j.val = 0) j
  have q3 : BitVec.ofNat 32 j.val = 3#32 ↔ j.val = 3 := (by decide : ∀ j : Fin 4, BitVec.ofNat 32 j.val = 3#32 ↔ j.val = 3) j
  show rowsOf _ _ _ (⟨8 + 8 * k + r.val, by omega⟩ : Fin 1056) d = _
  unfold rowsOf
  by_cases c1 : 8 + 8 * k + r.val < 16
  · have hk0 : k = 0 := by omega
    have hd : r.val / 8 = 0 := by omega
    have hm : r.val % 8 = r.val := by omega
    rw [dif_pos c1]
    refine (prev_apply _ _ _ _ (⟨8 + 8 * k + r.val, c1⟩ : Fin 16) (by simp only; omega) d).trans ?_
    by_cases cq : j.val = 0
    · rw [if_pos (q0.mpr cq)]
      by_cases c8 : 8 + 8 * k + r.val = 8
      · rw [if_pos c8, dif_neg (by omega)]
      · rw [if_neg c8, dif_pos (by omega)]
        refine hidden_of H _ _ (fun e => (H.x1 _ e).trans ?_) d
        refine congrArg (fun t : Fin 4096 => X (ix3 b t e)) (Fin.ext ?_)
        simp only [ht, hd, hm]
        omega
    · rw [if_neg (fun h => cq (q0.mp h)), dif_pos (by omega)]
      refine hidden_of H _ _ (fun e => (H.x1 _ e).trans ?_) d
      refine congrArg (fun t : Fin 4096 => X (ix3 b t e)) (Fin.ext ?_)
      simp only [ht, hd, hm]
      omega
  · rw [dif_neg c1]
    by_cases c2 : 8 + 8 * k + r.val < 1040
    · rw [dif_pos c2, dif_pos (by omega)]
      refine (row_apply _ _ _ _ d).trans ?_
      refine hidden_of H _ _ (fun e => (H.x0 _ e).trans ?_) d
      refine congrArg (fun t : Fin 4096 => X (ix3 b t e)) (Fin.ext ?_)
      show (8 + 8 * k + r.val - 16) % 8 * 512 + (128 * j.val + (8 + 8 * k + r.val - 16) / 8) = (tok j r).val + k - 1
      omega
    · have hk2 : k = 2 := by omega
      have hm : r.val % 8 = 8 + 8 * k + r.val - 1040 := by omega
      have hd : r.val / 8 = 127 := by omega
      rw [dif_neg c2]
      refine (next_apply _ _ _ _ (⟨8 + 8 * k + r.val - 1040, by omega⟩ : Fin 16) (by simp only; omega) d).trans ?_
      by_cases cq : j.val = 3
      · rw [if_pos (q3.mpr cq)]
        by_cases c8 : 8 + 8 * k + r.val - 1040 = 7
        · rw [if_pos c8, dif_neg (by omega)]
        · rw [if_neg c8, dif_pos (by omega)]
          refine hidden_of H _ _ (fun e => (H.x2 _ e).trans ?_) d
          refine congrArg (fun t : Fin 4096 => X (ix3 b t e)) (Fin.ext ?_)
          simp only [ht, hd, hm]
          omega
      · rw [if_neg (fun h => cq (q3.mp h)), dif_pos (by omega)]
        refine hidden_of H _ _ (fun e => (H.x2 _ e).trans ?_) d
        refine congrArg (fun t : Fin 4096 => X (ix3 b t e)) (Fin.ext ?_)
        simp only [ht, hd, hm]
        omega

/-- The up projection of a point's row is the reference's, its rows of zeros included. -/
theorem up_at (k : ℕ) (hk : k ≤ 2) (r : Fin 1024) (f : Fin 5632) :
    upAt (rows (BitVec.ofNat 32 j.val) x0 x1 x2 x3) x4 (⟨8 + 8 * k + r.val, by omega⟩ : Fin 1056) f
      = Ref.up (Ref.hidden X M) W (ix3 b (⟨(tok j r).val + k, by have := (tok j r).isLt; omega⟩ : Fin 4098) f) := by
  rw [Ref.up_apply]
  unfold upAt
  simp only [rows_at H k hk, H.x4]
  by_cases h : 1 ≤ (tok j r).val + k ∧ (tok j r).val + k - 1 < 4096
  · rw [dif_pos h]
    refine Finset.sum_congr rfl fun c _ => ?_
    rw [dif_pos h]
  · rw [dif_neg h]
    refine Finset.sum_eq_zero fun c _ => ?_
    rw [dif_neg h, zero_mul]

theorem conv_at (r : Fin 1024) (f : Fin 5632) :
    convAt (rows (BitVec.ofNat 32 j.val) x0 x1 x2 x3) x4 x5 x6 r f
      = Ref.conv (Ref.up (Ref.hidden X M) W) C B (ix3 b (tok j r) f) := by
  rw [Ref.conv_apply]
  unfold convAt
  have u0 := up_at H 0 (by omega) r f
  have u1 := up_at H 1 (by omega) r f
  have u2 := up_at H 2 (by omega) r f
  rw [show (⟨8 + r.val, by omega⟩ : Fin 1056) = ⟨8 + 8 * 0 + r.val, by omega⟩ from rfl, u0,
    show (⟨16 + r.val, by omega⟩ : Fin 1056) = ⟨8 + 8 * 1 + r.val, by omega⟩ from rfl, u1,
    show (⟨24 + r.val, by omega⟩ : Fin 1056) = ⟨8 + 8 * 2 + r.val, by omega⟩ from rfl, u2, H.x5, H.x5, H.x5, H.x6]
  have e1 : (⟨(tok j r).val + 1, by have := (tok j r).isLt; omega⟩ : Fin 4098) = ⟨1 + (tok j r).val, by have := (tok j r).isLt; omega⟩ :=
    Fin.ext (Nat.add_comm _ _)
  have e2 : (⟨(tok j r).val + 2, by have := (tok j r).isLt; omega⟩ : Fin 4098) = ⟨2 + (tok j r).val, by have := (tok j r).isLt; omega⟩ :=
    Fin.ext (Nat.add_comm _ _)
  rw [e1, e2, mul_comm (C (ix3 (1 : Fin 2) (0 : Fin 3) f)), mul_comm (C (ix3 (1 : Fin 2) (1 : Fin 3) f)),
    mul_comm (C (ix3 (1 : Fin 2) (2 : Fin 3) f))]
  rfl

end Point

/-- The first five arguments are finite. -/
structure Finite (X : FVec Ideal S4x4096x1024 .f32) (M : FVec Ideal S2x8x6144 .f32) (W : FVec Ideal S2x1024x5632 .f32)
    (C : FVec Ideal S2x3x5632 .f32) (B : FVec Ideal S2x5632 .f32) : Prop where
  x : ∀ i, IsReal (X i)
  mods : ∀ i, IsReal (M i)
  up : ∀ i, IsReal (W i)
  conv : ∀ i, IsReal (C i)
  bias : ∀ i, IsReal (B i)

theorem real_up {X : FVec Ideal S4x4096x1024 .f32} {M : FVec Ideal S2x8x6144 .f32} {W : FVec Ideal S2x1024x5632 .f32}
    {C : FVec Ideal S2x3x5632 .f32} {B : FVec Ideal S2x5632 .f32} (R : Finite X M W C B) (b : Fin 4) (t : Fin 4098) (f : Fin 5632) :
    IsReal (Ref.up (Ref.hidden X M) W (ix3 b t f)) := by
  rw [Ref.up_apply]
  split_ifs with h
  · refine IsReal.sum _ fun c => IsReal.mul ?_ (R.up _)
    rw [Ref.hidden_apply]
    exact real_normRow _ _ _ (fun _ => R.x _) (fun _ => R.mods _) (fun _ => R.mods _) c
  · exact IsReal.zero

theorem real_conv {X : FVec Ideal S4x4096x1024 .f32} {M : FVec Ideal S2x8x6144 .f32} {W : FVec Ideal S2x1024x5632 .f32}
    {C : FVec Ideal S2x3x5632 .f32} {B : FVec Ideal S2x5632 .f32} (R : Finite X M W C B) (b : Fin 4) (t : Fin 4096) (f : Fin 5632) :
    IsReal (Ref.conv (Ref.up (Ref.hidden X M) W) C B (ix3 b t f)) := by
  rw [Ref.conv_apply]
  exact ((((real_up R _ _ _).mul (R.conv _)).add ((real_up R _ _ _).mul (R.conv _))).add ((real_up R _ _ _).mul (R.conv _))).add
    (R.bias _)

/-- The last rows of a point are the reference's rows of the same tokens. -/
theorem point_eq {X : FVec Ideal S4x4096x1024 .f32} {M : FVec Ideal S2x8x6144 .f32} {W : FVec Ideal S2x1024x5632 .f32}
    {C : FVec Ideal S2x3x5632 .f32} {B : FVec Ideal S2x5632 .f32} {D : FVec Ideal S2x2816x1024 .f32} {L : FVec Ideal S1024 .f32}
    {b j : Fin 4} {x0 : Vec Ideal S1024x1024 .f32} {x1 x2 : Vec Ideal S8x1024 .f32} {x3 : Vec Ideal S1x1x3072 .f32}
    {x4 : Vec Ideal S1x1024x5632 .bf16} {x5 : Vec Ideal S1x3x5632 .f32} {x6 : Vec Ideal S1x1x5632 .f32}
    {x7 : Vec Ideal S1x2816x1024 .bf16} {x8 : Vec Ideal S1x1024 .f32}
    (H : Holds X M W C B D L b j x0 x1 x2 x3 x4 x5 x6 x7 x8) (R : Finite X M W C B)
    (A : Vec Ideal S1024x2816 .bf16)
    (hA : ∀ (r : Fin 1024) (k : Fin 2816), A (ix2 r k) = actAt (rows (BitVec.ofNat 32 j.val) x0 x1 x2 x3) x4 x5 x6 r k)
    (r d : Fin 1024) :
    lastAt A x0 x3 x7 x8 r d
      = lastRow (fun e => Ref.res X M (Ref.act (Ref.conv (Ref.up (Ref.hidden X M) W) C B)) D (ix3 b (tok j r) e))
          (fun e => L (ix1 e)) d := by
  unfold lastAt
  have h8 : (fun e : Fin 1024 => x8 (ix2 0 e)) = fun e => L (ix1 e) := funext fun e => H.x8 e
  rw [h8]
  refine congrArg (fun o => lastRow o (fun e => L (ix1 e)) d) (funext fun e => ?_)
  rw [Ref.res_apply, H.x0, modsFrom_apply, H.x3]
  have hs : (∑ k : Fin 2816, A (ix2 r k) * x7 (ix3 (0 : Fin 1) k e))
      = ∑ f : Fin 2816, Ref.act (Ref.conv (Ref.up (Ref.hidden X M) W) C B) (ix3 b (tok j r) f) * D (ix3 (1 : Fin 2) f e) := by
    refine Finset.sum_congr rfl fun k _ => ?_
    rw [hA, H.x7, Ref.act_apply]
    unfold actAt
    rw [conv_at H, conv_at H, gated_eq _ _ (real_conv R _ _ _)]
  rw [hs]
  have e1 : (⟨3072 + (2048 + e.val), by omega⟩ : Fin 6144) = ⟨5120 + e.val, by omega⟩ := Fin.ext (by simp only; omega)
  exact congrArg (fun k : Fin 6144 => X (ix3 b (tok j r) e) + M (ix3 (1 : Fin 2) (⟨b.val, by omega⟩ : Fin 8) k)
    * ∑ f : Fin 2816, Ref.act (Ref.conv (Ref.up (Ref.hidden X M) W) C B) (ix3 b (tok j r) f) * D (ix3 (1 : Fin 2) f e)) e1

end Cert.Ffn

end
-- ==== Proof.FfnEqual.lean ====
/- The feed-forward equation: at exact numbers, on finite rows, modulation and weights, the kernel's array and the reference's
   are the same. -/
module

public import proofs.«01_k».proof.Defs
public import proofs.«01_k».proof.Proof.Equal
public import proofs.«01_k».proof.Proof.FfnHost
public import proofs.«01_k».proof.Proof.FfnOut
public import proofs.«01_k».proof.Proof.FfnPoint
public import proofs.«01_k».proof.Proof.Gen.Pre_finite_ffn

@[expose] public section

set_option maxRecDepth 16384

noncomputable section

namespace Cert.Ffn

open Idealize.ShloMosaic Idealize.ShloMosaic.TcCoe Idealize.SL.Sem
open Cert.Kernel2Ideal Cert.Kernel2Ideal.Gen

/-! ## The precondition -/

/-- The precondition makes the rows, the modulation and the first three weights real. -/
theorem real_of_finite (X : FVec Ideal S4x4096x1024 .f32) (M : FVec Ideal S2x8x6144 .f32) (W : FVec Ideal S2x1024x5632 .f32)
    (C : FVec Ideal S2x3x5632 .f32) (B : FVec Ideal S2x5632 .f32) (D : FVec Ideal S2x2816x1024 .f32) (L : FVec Ideal S1024 .f32)
    (h : (Cert.Pre_finite_ffn.fn (F := Ideal) X M W C B D L).1 = (fun _ => 1#1)
      ∧ (Cert.Pre_finite_ffn.fn (F := Ideal) X M W C B D L).2.1 = (fun _ => 1#1)
      ∧ (Cert.Pre_finite_ffn.fn (F := Ideal) X M W C B D L).2.2.1 = (fun _ => 1#1)
      ∧ (Cert.Pre_finite_ffn.fn (F := Ideal) X M W C B D L).2.2.2.1 = (fun _ => 1#1)
      ∧ (Cert.Pre_finite_ffn.fn (F := Ideal) X M W C B D L).2.2.2.2 = (fun _ => 1#1)) : Finite X M W C B where
  x i := ⟨_, Cert.Attn.real_of_below _ (by rw [← Cert.Attn.ofBits_inf]; exact congrFun h.1 i)⟩
  mods i := ⟨_, Cert.Attn.real_of_below _ (by rw [← Cert.Attn.ofBits_inf]; exact congrFun h.2.1 i)⟩
  up i := ⟨_, Cert.Attn.real_of_below _ (by rw [← Cert.Attn.ofBits_inf]; exact congrFun h.2.2.1 i)⟩
  conv i := ⟨_, Cert.Attn.real_of_below _ (by rw [← Cert.Attn.ofBits_inf]; exact congrFun h.2.2.2.1 i)⟩
  bias i := ⟨_, Cert.Attn.real_of_below _ (by rw [← Cert.Attn.ofBits_inf]; exact congrFun h.2.2.2.2 i)⟩

variable (m : (ℓ : Loc nD τ sig) → Buf (Elt Ideal) ℓ)

/-! ## A point's block -/

/-- The word that counts the tiles of a batch entry. -/
theorem word_tile : ∀ t : Fin cfg0.N, kernelRun0_A.sl.v9 (grid0.coords t) = BitVec.ofNat 32 (tileOf t).val :=
  (by decide +kernel : ∀ t : Fin grid0.N, kernelRun0_A.sl.v9 (grid0.coords t) = BitVec.ofNat 32 (t.val % 4))

theorem holds (c : Dev nD) (t : Fin cfg0.N) :
    Holds (argX m c) (argM m c) (argW m c) (argC m c) (argB m c) (argD m c) (argL m c) (batchOf t) (tileOf t)
      (iblk m c 0 t) (iblk m c 1 t) (iblk m c 2 t) (iblk m c 3 t) (iblk m c 4 t) (iblk m c 5 t) (iblk m c 6 t) (iblk m c 7 t)
      (iblk m c 8 t) where
  x0 := blk_x m c t
  x1 := blk_prev m c t
  x2 := blk_next m c t
  x3 := blk_mods m c t
  x4 := blk_up m c t
  x5 := blk_conv m c t
  x6 := blk_bias m c t
  x7 := blk_down m c t
  x8 := blk_last m c t

/-- The rows before the last norm. -/
def stream (c : Dev nD) : FVec Ideal S4x4096x1024 .f32 :=
  Ref.res (argX m c) (argM m c) (Ref.act (Ref.conv (Ref.up (Ref.hidden (argX m c) (argM m c)) (argW m c)) (argC m c) (argB m c)))
    (argD m c)

/-- The result of core `c`. -/
def result (c : Dev nD) : FVec Ideal S4x8x512x1024 .f32 := Ref.out (stream m c) (argL m c)

/-- A point's block of results is the reference's rows of its tokens. -/
theorem block_eq (c : Dev nD) (t : Fin cfg0.N) (R : Finite (argX m c) (argM m c) (argW m c) (argC m c) (argB m c))
    (s : Fin 8) (q : Fin 128) (d : Fin 1024) :
    outsAt0 m c t (ix4 (0 : Fin 1) s q d)
      = result m c (ix4 (batchOf t) s (⟨128 * (tileOf t).val + q.val, by have := (tileOf t).isLt; omega⟩ : Fin 512) d) := by
  unfold outsAt0
  rw [out_word]
  unfold tiled
  refine (last_word _ _ _ _ _ _ _ _ _ _ _ _ _ _ _ _ _ _ _ _ _ _ _ _ _ _ _ _ _ _ _ _ _ _ _).trans ?_
  refine (point_eq (holds m c t) R _ (fun r k => ?_) _ _).trans ?_
  · refine (acts_word _ _ _ _ _ _ _ _ _ _ _ _ _ _ _ _ _ _ _ _ _ _ _ _ _ _ _ (ix2 r k)).trans ?_
    rw [word_tile]
    rfl
  · refine Eq.trans ?_ (Ref.out_apply _ _ _ _ _ _).symm
    have hs := s.isLt
    have hq := q.isLt
    have hj := (tileOf t).isLt
    have e : tok (tileOf t) (⟨8 * q.val + s.val, by omega⟩ : Fin 1024)
        = (⟨s.val * 512 + (128 * (tileOf t).val + q.val), by omega⟩ : Fin 4096) := by
      apply Fin.ext
      show (8 * q.val + s.val) % 8 * 512 + (128 * (tileOf t).val + (8 * q.val + s.val) / 8) = _
      rw [show (8 * q.val + s.val) % 8 = s.val by omega, show (8 * q.val + s.val) / 8 = q.val by omega]
    show lastRow (fun e => stream m c (ix3 (batchOf t) (tok (tileOf t) (⟨8 * q.val + s.val, by omega⟩ : Fin 1024)) e)) _ _ = _
    rw [e]
    rfl

/-! ## The whole array -/

theorem flushed_eq (c : Dev nD) (t : Fin cfg0.N) (R : Finite (argX m c) (argM m c) (argW m c) (argC m c) (argB m c)) :
    (dats m 0 c).flushed 9 t = ((cfg0.win 9).blk t).view.read (Elt Ideal) (result m c) := by
  rw [Cert.Kernel2Ideal.Value.flushed9]
  funext x
  obtain ⟨v, s, q, d, rfl⟩ : ∃ (v : Fin 1) (s : Fin 8) (q : Fin 128) (d : Fin 1024), x = ix4 v s q d := ⟨_, _, _, _, eq_ix4 x⟩
  obtain rfl : v = 0 := Subsingleton.elim _ _
  refine (block_eq m c t R s q d).trans ?_
  obtain ⟨e0, e1, e2, e3⟩ := at_9 t
  show _ = result m c (((cfg0.win 9).blk t).view.emb (ix4 (0 : Fin 1) s q d))
  have h : ((cfg0.win 9).blk t).view.emb (ix4 (0 : Fin 1) s q d)
      = ix4 (batchOf t) s (⟨128 * (tileOf t).val + q.val, by have := (tileOf t).isLt; omega⟩ : Fin 512) d := by
    funext a; apply Fin.ext
    match a with
    | ⟨0, _⟩ => show win0_9.index t (0 : Fin 4) * 1 + 1 * 0 = t.val / 4; omega
    | ⟨1, _⟩ => show win0_9.index t (1 : Fin 4) * 8 + 1 * s.val = s.val; omega
    | ⟨2, _⟩ => show win0_9.index t (2 : Fin 4) * 128 + 1 * q.val = 128 * (t.val % 4) + q.val; omega
    | ⟨3, _⟩ => show win0_9.index t (3 : Fin 4) * 1024 + 1 * d.val = d.val; omega
  rw [h]

theorem covered (i : S4x8x512x1024.Idx) : ∃ t : Fin cfg0.N, (cfg0.win 9).flush t = true ∧ i ∈ ((cfg0.win 9).blk t).view.set := by
  obtain ⟨b, s, g, d, rfl⟩ : ∃ (b : Fin 4) (s : Fin 8) (g : Fin 512) (d : Fin 1024), i = ix4 b s g d := ⟨_, _, _, _, eq_ix4 i⟩
  have hb := b.isLt
  have hg := g.isLt
  let t : Fin cfg0.N := ⟨4 * b.val + g.val / 128, by show _ < 16; omega⟩
  refine ⟨t, flush0_9 t, ?_⟩
  obtain ⟨e0, e1, e2, e3⟩ := at_9 t
  have ht : t.val = 4 * b.val + g.val / 128 := rfl
  have h : ((cfg0.win 9).blk t).view.emb (ix4 (0 : Fin 1) s (⟨g.val % 128, by omega⟩ : Fin 128) d) = ix4 b s g d := by
    funext a; apply Fin.ext
    match a with
    | ⟨0, _⟩ => show win0_9.index t (0 : Fin 4) * 1 + 1 * 0 = b.val; omega
    | ⟨1, _⟩ => show win0_9.index t (1 : Fin 4) * 8 + 1 * s.val = s.val; omega
    | ⟨2, _⟩ => show win0_9.index t (2 : Fin 4) * 128 + 1 * (g.val % 128) = g.val; omega
    | ⟨3, _⟩ => show win0_9.index t (3 : Fin 4) * 1024 + 1 * d.val = d.val; omega
  have hm := ((cfg0.win 9).blk t).view.emb_mem_set (ix4 (0 : Fin 1) s (⟨g.val % 128, by omega⟩ : Fin 128) d)
  rw [h] at hm
  exact hm

theorem final (c : Dev nD) (R : Finite (argX m c) (argM m c) (argW m c) (argC m c) (argB m c)) :
    (dats m 0 c).arrAt 9 cfg0.N = result m c :=
  (dats m 0 c).arrAt_eq_of_cover 9 (result m c) (fun t _ => flushed_eq m c t R) covered

/-! ## The equation -/

/-- At exact numbers the kernel and the reference give the same array. -/
theorem equal : Cert.algebraic_Kernel2Ideal_Reference2Ideal_pre_finite_ffn := by
  intro m g m' g' hp ha
  have R : ∀ c, Finite (argX m c) (argM m c) (argW m c) (argC m c) (argB m c) := fun c =>
    real_of_finite _ _ _ _ _ (argD m c) (argL m c) (hp c)
  refine ⟨fun c => result m c, ?_, ?_⟩
  · exact (θ_run _ _ _).mono (fun r h c => ⟨(h c).1.trans (final m c (R c)), (h c).2⟩) (Cert.Kernel2Ideal.Value.run_blocks m g)
  · refine (θ_run _ _ _).mono (fun r h c => ⟨((h c).1.trans (Ref.stages m' c)).trans ?_, (h c).2⟩)
      (Cert.Reference2Ideal.Value.run (F := Ideal) m' g')
    rw [(ha c).1, (ha c).2.1, (ha c).2.2.1, (ha c).2.2.2.1, (ha c).2.2.2.2.1, (ha c).2.2.2.2.2.1, (ha c).2.2.2.2.2.2]
    rfl

end Cert.Ffn

end
-- ==== Proof.lean ====
/- The certificate of the attention call and the feed-forward call: frames, and the equations with the references. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite_qk
public import proofs.«01_k».proof.Proof.Gen.Pre_finite_ffn
public import proofs.«01_k».proof.Proof.Frames
public import proofs.«01_k».proof.Proof.Equal
public import proofs.«01_k».proof.Proof.Frames2
public import proofs.«01_k».proof.Proof.FfnEqual
public import Idealize.ShloMosaic.Adequacy
public import Idealize.ShloMosaic.Init

@[expose] public section

noncomputable section

namespace Cert.Proof

open Idealize.ShloMosaic Idealize.SL.Sem Cert.Kernel

/-- The certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Pre_finite_qk.Gen.facts,
    Cert.Pre_finite_ffn.Gen.facts,
    frame_kernel, frame_ideal, frame_ideal_pre, frame_reference, frame_reference_pre,
    Ffn.frame_kernel, Ffn.frame_ideal, Ffn.frame_ideal_pre, Ffn.frame_reference, Ffn.frame_reference_pre,
    trivial, Attn.equal, trivial, Ffn.equal⟩

end Cert.Proof

end
